-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S_ : Shape := ⟨0, ![]⟩
abbrev S32x1024 : Shape := ⟨2, ![32, 1024]⟩
abbrev S1x8x1024 : Shape := ⟨3, ![1, 8, 1024]⟩
abbrev S1x8x3145728 : Shape := ⟨3, ![1, 8, 3145728]⟩
abbrev S8x1024 : Shape := ⟨2, ![8, 1024]⟩
abbrev S8x3145728 : Shape := ⟨2, ![8, 3145728]⟩
abbrev S8x262144 : Shape := ⟨2, ![8, 262144]⟩
abbrev S8192x32 : Shape := ⟨2, ![8192, 32]⟩
abbrev S1024x256 : Shape := ⟨2, ![1024, 256]⟩
abbrev S2048x32 : Shape := ⟨2, ![2048, 32]⟩
abbrev S2048x128 : Shape := ⟨2, ![2048, 128]⟩
abbrev S32x8 : Shape := ⟨2, ![32, 8]⟩
abbrev S32 : Shape := ⟨1, ![32]⟩
abbrev S32x1 : Shape := ⟨2, ![32, 1]⟩
abbrev S8x32 : Shape := ⟨2, ![8, 32]⟩
abbrev S2048x1024 : Shape := ⟨2, ![2048, 1024]⟩
abbrev S256x128 : Shape := ⟨2, ![256, 128]⟩
abbrev S256x32 : Shape := ⟨2, ![256, 32]⟩
abbrev S256x256 : Shape := ⟨2, ![256, 256]⟩
abbrev S2048x256 : Shape := ⟨2, ![2048, 256]⟩
abbrev S32x256 : Shape := ⟨2, ![32, 256]⟩

abbrev nBuf : Space → Nat
  | .hbm => 7
  | .vmem => 9
  | .smem => 0
  | _ => 0

abbrev bufTy : (tb : Table) → Fin (tcTables nBuf tb) → BufTy
  | .hbm, ⟨0, _⟩ => ⟨S_, .i32⟩
  | .hbm, ⟨1, _⟩ => ⟨S32x1024, .f32⟩
  | .hbm, ⟨2, _⟩ => ⟨S1x8x1024, .f32⟩
  | .hbm, ⟨3, _⟩ => ⟨S1x8x3145728, .f32⟩
  | .hbm, ⟨4, _⟩ => ⟨S8x1024, .f32⟩
  | .hbm, ⟨5, _⟩ => ⟨S8x3145728, .f32⟩
  | .hbm, ⟨6, _⟩ => ⟨S32x1024, .f32⟩
  | .local _ .vmem, ⟨0, _⟩ => ⟨S32x1024, .f32⟩
  | .local _ .vmem, ⟨1, _⟩ => ⟨S8x1024, .f32⟩
  | .local _ .vmem, ⟨2, _⟩ => ⟨S8x262144, .f32⟩
  | .local _ .vmem, ⟨3, _⟩ => ⟨S8x262144, .f32⟩
  | .local _ .vmem, ⟨4, _⟩ => ⟨S32x1024, .f32⟩
  | .local _ .vmem, ⟨5, _⟩ => ⟨S8192x32, .f32⟩
  | .local _ .vmem, ⟨6, _⟩ => ⟨S1024x256, .f32⟩
  | .local _ .vmem, ⟨7, _⟩ => ⟨S2048x32, .f32⟩
  | .local _ .vmem, ⟨8, _⟩ => ⟨S2048x128, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c8_i32_9 : BitVec 32 := 8#32
  let v277 : BitVec 32 := Scalar.muli arg0 c8_i32_9
  let c256_i32 : BitVec 32 := 256#32
  let v278 : BitVec 32 := Scalar.muli v277 c256_i32
  let v279 : Index := Scalar.indexCast v278
  let c0_10 : Index := 0#32
  ![v279.toNat, 0]
def k0_cond3 (i : grid0.Coords) : BitVec 1 :=
  let arg0 : BitVec 32 := BitVec.ofNat 32 (i 0).val
  let c4_i32_2 : BitVec 32 := 4#32
  let v6 : BitVec 1 := Scalar.cmpi .sge arg0 c4_i32_2
  let c8_i32 : BitVec 32 := 8#32
  let v7 : BitVec 1 := Scalar.cmpi .slt arg0 c8_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off2 (i : grid0.Coords) : Fin 2 → Nat :=
  let arg0 : BitVec 32 := BitVec.ofNat 32 (i 0).val
  let c4_i32_6 : BitVec 32 := 4#32
  let v14 : BitVec 32 := Scalar.subi arg0 c4_i32_6
  let c8_i32_10 : BitVec 32 := 8#32
  let v278 : BitVec 32 := Scalar.muli v14 c8_i32_10
  let c256_i32 : BitVec 32 := 256#32
  let v279 : BitVec 32 := Scalar.muli v278 c256_i32
  let v280 : Index := Scalar.indexCast v279
  let c0_11 : Index := 0#32
  ![v280.toNat, 0]
def k0_off3 (i : grid0.Coords) : Fin 2 → Nat :=
  let arg0 : BitVec 32 := BitVec.ofNat 32 (i 0).val
  let c4_i32_6 : BitVec 32 := 4#32
  let v14 : BitVec 32 := Scalar.subi arg0 c4_i32_6
  let c256_i32_25 : BitVec 32 := 256#32
  let v307 : BitVec 32 := Scalar.muli v14 c256_i32_25
  let v308 : Index := Scalar.indexCast v307
  let c0_26 : Index := 0#32
  ![v308.toNat, 0]
def k0_cond4 (i : grid0.Coords) : BitVec 1 :=
  let arg0 : BitVec 32 := BitVec.ofNat 32 (i 0).val
  let c8_i32_4 : BitVec 32 := 8#32
  let v11 : BitVec 1 := Scalar.cmpi .sge arg0 c8_i32_4
  let v12 : BitVec 32 := Scalar.extui v11
  let c0_i32_5 : BitVec 32 := 0#32
  let v13 : BitVec 1 := Scalar.cmpi .ne v12 c0_i32_5
  v13

def k0_off4 (i : grid0.Coords) : Fin 2 → Nat :=
  let c0_23 : Index := 0#32
  let arg0 : BitVec 32 := BitVec.ofNat 32 (i 0).val
  let c8_i32_6 : BitVec 32 := 8#32
  let v14 : BitVec 32 := Scalar.subi arg0 c8_i32_6
  let c256_i32 : BitVec 32 := 256#32
  let v310 : BitVec 32 := Scalar.muli v14 c256_i32
  let v311 : Index := Scalar.indexCast v310
  ![0, v311.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x262144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S_ : Shape := ⟨0, ![]⟩
abbrev S32x1024 : Shape := ⟨2, ![32, 1024]⟩
abbrev S1x8x1024 : Shape := ⟨3, ![1, 8, 1024]⟩
abbrev S1x8x3145728 : Shape := ⟨3, ![1, 8, 3145728]⟩
abbrev S8x1024 : Shape := ⟨2, ![8, 1024]⟩
abbrev S1024x8 : Shape := ⟨2, ![1024, 8]⟩
abbrev S32x8 : Shape := ⟨2, ![32, 8]⟩
abbrev S32 : Shape := ⟨1, ![32]⟩
abbrev S32x1 : Shape := ⟨2, ![32, 1]⟩
abbrev S32x2 : Shape := ⟨2, ![32, 2]⟩
abbrev S32x2x1 : Shape := ⟨3, ![32, 2, 1]⟩
abbrev S32x2x2 : Shape := ⟨3, ![32, 2, 2]⟩
abbrev S8x3145728 : Shape := ⟨2, ![8, 3145728]⟩
abbrev S8x1048576 : Shape := ⟨2, ![8, 1048576]⟩
abbrev S8x1024x1024 : Shape := ⟨3, ![8, 1024, 1024]⟩
abbrev S32x8x1024 : Shape := ⟨3, ![32, 8, 1024]⟩
abbrev S8x1024x32 : Shape := ⟨3, ![8, 1024, 32]⟩

abbrev nBuf : Space → Nat
  | .hbm => 117
  | .vmem => 0
  | .smem => 0
  | _ => 0

abbrev bufTy : (tb : Table) → Fin (tcTables nBuf tb) → BufTy
  | .hbm, ⟨0, _⟩ => ⟨S_, .i32⟩
  | .hbm, ⟨1, _⟩ => ⟨S32x1024, .f32⟩
  | .hbm, ⟨2, _⟩ => ⟨S1x8x1024, .f32⟩
  | .hbm, ⟨3, _⟩ => ⟨S1x8x3145728, .f32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1x8x1024, .f32⟩
  | .hbm, ⟨26, _⟩ => ⟨S8x1024, .f32⟩
  | .hbm, ⟨27, _⟩ => ⟨S1024x8, .f32⟩
  | .hbm, ⟨28, _⟩ => ⟨S32x8, .f32⟩
  | .hbm, ⟨29, _⟩ => ⟨S_, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32x1, .f32⟩
  | .hbm, ⟨35, _⟩ => ⟨S32x8, .f32⟩
  | .hbm, ⟨36, _⟩ => ⟨S32x8, .f32⟩
  | .hbm, ⟨37, _⟩ => ⟨S32x8, .f32⟩
  | .hbm, ⟨38, _⟩ => ⟨S_, .f32⟩
  | .hbm, ⟨39, _⟩ => ⟨S32, .f32⟩
  | .hbm, ⟨40, _⟩ => ⟨S32x1, .f32⟩
  | .hbm, ⟨41, _⟩ => ⟨S32x8, .f32⟩
  | .hbm, ⟨42, _⟩ => ⟨S32x8, .f32⟩
  | .hbm, ⟨43, _⟩ => ⟨S32x2, .f32⟩
  | .hbm, ⟨44, _⟩ => ⟨S32x2, .i32⟩
  | .hbm, ⟨45, _⟩ => ⟨S_, .f32⟩
  | .hbm, ⟨46, _⟩ => ⟨S32, .f32⟩
  | .hbm, ⟨47, _⟩ => ⟨S32x1, .f32⟩
  | .hbm, ⟨48, _⟩ => ⟨S32x2, .f32⟩
  | .hbm, ⟨49, _⟩ => ⟨S32x2, .f32⟩
  | .hbm, ⟨50, _⟩ => ⟨S_, .f32⟩
  | .hbm, ⟨51, _⟩ => ⟨S32x8, .f32⟩
  | .hbm, ⟨52, _⟩ => ⟨S32, .i32⟩
  | .hbm, ⟨53, _⟩ => ⟨S32x1, .i32⟩
  | .hbm, ⟨54, _⟩ => ⟨S_, .i32⟩
  | .hbm, ⟨55, _⟩ => ⟨S32x1, .i32⟩
  | .hbm, ⟨56, _⟩ => ⟨S32x1, .i1⟩
  | .hbm, ⟨57, _⟩ => ⟨S_, .i32⟩
  | .hbm, ⟨58, _⟩ => ⟨S32x1, .i32⟩
  | .hbm, ⟨59, _⟩ => ⟨S32x1, .i32⟩
  | .hbm, ⟨60, _⟩ => ⟨S32x1, .i32⟩
  | .hbm, ⟨61, _⟩ => ⟨S_, .i32⟩
  | .hbm, ⟨62, _⟩ => ⟨S32x2, .i32⟩
  | .hbm, ⟨63, _⟩ => ⟨S32x2, .i1⟩
  | .hbm, ⟨64, _⟩ => ⟨S_, .i32⟩
  | .hbm, ⟨65, _⟩ => ⟨S32x2, .i32⟩
  | .hbm, ⟨66, _⟩ => ⟨S32x2, .i32⟩
  | .hbm, ⟨67, _⟩ => ⟨S32x2, .i32⟩
  | .hbm, ⟨68, _⟩ => ⟨S32x2, .i32⟩
  | .hbm, ⟨69, _⟩ => ⟨S32x2x1, .i32⟩
  | .hbm, ⟨70, _⟩ => ⟨S32x2x1, .i32⟩
  | .hbm, ⟨71, _⟩ => ⟨S32x2x2, .i32⟩
  | .hbm, ⟨72, _⟩ => ⟨S32x8, .f32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i1⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S1x8x3145728, .f32⟩
  | .hbm, ⟨95, _⟩ => ⟨S8x3145728, .f32⟩
  | .hbm, ⟨96, _⟩ => ⟨S8x1048576, .f32⟩
  | .hbm, ⟨97, _⟩ => ⟨S8x1024x1024, .f32⟩
  | .hbm, ⟨98, _⟩ => ⟨S8x1048576, .f32⟩
  | .hbm, ⟨99, _⟩ => ⟨S8x1024x1024, .f32⟩
  | .hbm, ⟨100, _⟩ => ⟨S8x1048576, .f32⟩
  | .hbm, ⟨101, _⟩ => ⟨S8x1024x1024, .f32⟩
  | .hbm, ⟨102, _⟩ => ⟨S32x8x1024, .f32⟩
  | .hbm, ⟨103, _⟩ => ⟨S32x8x1024, .f32⟩
  | .hbm, ⟨104, _⟩ => ⟨S32x8x1024, .f32⟩
  | .hbm, ⟨105, _⟩ => ⟨S32x8x1024, .f32⟩
  | .hbm, ⟨106, _⟩ => ⟨S_, .f32⟩
  | .hbm, ⟨107, _⟩ => ⟨S32x8x1024, .f32⟩
  | .hbm, ⟨108, _⟩ => ⟨S32x8x1024, .f32⟩
  | .hbm, ⟨109, _⟩ => ⟨S_, .f32⟩
  | .hbm, ⟨110, _⟩ => ⟨S32x8x1024, .f32⟩
  | .hbm, ⟨111, _⟩ => ⟨S32x8x1024, .f32⟩
  | .hbm, ⟨112, _⟩ => ⟨S32x8x1024, .f32⟩
  | .hbm, ⟨113, _⟩ => ⟨S32x8x1024, .f32⟩
  | .hbm, ⟨114, _⟩ => ⟨S8x1024x32, .f32⟩
  | .hbm, ⟨115, _⟩ => ⟨S32x8x1024, .f32⟩
  | .hbm, ⟨116, _⟩ => ⟨S32x1024, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_c_2 : Ref sig .tc := ⟨.hbm, 10, rfl⟩
abbrev main_v3 : Ref sig .tc := ⟨.hbm, 11, rfl⟩
abbrev main_c_3 : Ref sig .tc := ⟨.hbm, 12, rfl⟩
abbrev main_c_4 : Ref sig .tc := ⟨.hbm, 13, rfl⟩
abbrev main_v4 : Ref sig .tc := ⟨.hbm, 14, rfl⟩
abbrev main_c_5 : Ref sig .tc := ⟨.hbm, 15, rfl⟩
abbrev main_v5 : Ref sig .tc := ⟨.hbm, 16, rfl⟩
abbrev main_c_6 : Ref sig .tc := ⟨.hbm, 17, rfl⟩
abbrev main_c_7 : Ref sig .tc := ⟨.hbm, 18, rfl⟩
abbrev main_v6 : Ref sig .tc := ⟨.hbm, 19, rfl⟩
abbrev main_c_8 : Ref sig .tc := ⟨.hbm, 20, rfl⟩
abbrev main_c_9 : Ref sig .tc := ⟨.hbm, 21, rfl⟩
abbrev main_v7 : Ref sig .tc := ⟨.hbm, 22, rfl⟩
abbrev main_c_10 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_cst_11 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_12 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_values : Ref sig .tc := ⟨.hbm, 43, rfl⟩
abbrev main_indices : Ref sig .tc := ⟨.hbm, 44, rfl⟩
abbrev main_cst_13 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_14 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_15 : Ref sig .tc := ⟨.hbm, 54, rfl⟩
abbrev main_v31 : Ref sig .tc := ⟨.hbm, 55, rfl⟩
abbrev main_v32 : Ref sig .tc := ⟨.hbm, 56, rfl⟩
abbrev main_c_16 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_17 : Ref sig .tc := ⟨.hbm, 61, rfl⟩
abbrev main_v36 : Ref sig .tc := ⟨.hbm, 62, rfl⟩
abbrev main_v37 : Ref sig .tc := ⟨.hbm, 63, rfl⟩
abbrev main_c_18 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_19 : Ref sig .tc := ⟨.hbm, 73, rfl⟩
abbrev main_v46 : Ref sig .tc := ⟨.hbm, 74, rfl⟩
abbrev main_c_20 : Ref sig .tc := ⟨.hbm, 75, rfl⟩
abbrev main_v47 : Ref sig .tc := ⟨.hbm, 76, rfl⟩
abbrev main_v48 : Ref sig .tc := ⟨.hbm, 77, rfl⟩
abbrev main_c_21 : Ref sig .tc := ⟨.hbm, 78, rfl⟩
abbrev main_c_22 : Ref sig .tc := ⟨.hbm, 79, rfl⟩
abbrev main_v49 : Ref sig .tc := ⟨.hbm, 80, rfl⟩
abbrev main_c_23 : Ref sig .tc := ⟨.hbm, 81, rfl⟩
abbrev main_c_24 : Ref sig .tc := ⟨.hbm, 82, rfl⟩
abbrev main_v50 : Ref sig .tc := ⟨.hbm, 83, rfl⟩
abbrev main_c_25 : Ref sig .tc := ⟨.hbm, 84, rfl⟩
abbrev main_v51 : Ref sig .tc := ⟨.hbm, 85, rfl⟩
abbrev main_c_26 : Ref sig .tc := ⟨.hbm, 86, rfl⟩
abbrev main_c_27 : Ref sig .tc := ⟨.hbm, 87, rfl⟩
abbrev main_v52 : Ref sig .tc := ⟨.hbm, 88, rfl⟩
abbrev main_c_28 : Ref sig .tc := ⟨.hbm, 89, rfl⟩
abbrev main_c_29 : Ref sig .tc := ⟨.hbm, 90, rfl⟩
abbrev main_v53 : Ref sig .tc := ⟨.hbm, 91, rfl⟩
abbrev main_c_30 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_call0_v0 : Ref sig .tc := ⟨.hbm, 104, rfl⟩
abbrev main_call0_v1 : Ref sig .tc := ⟨.hbm, 105, rfl⟩
abbrev main_call0_cst : Ref sig .tc := ⟨.hbm, 106, rfl⟩
abbrev main_call0_v2 : Ref sig .tc := ⟨.hbm, 107, rfl⟩
abbrev main_call0_v3 : Ref sig .tc := ⟨.hbm, 108, rfl⟩
abbrev main_call0_cst_0 : Ref sig .tc := ⟨.hbm, 109, rfl⟩
abbrev main_call0_v4 : Ref sig .tc := ⟨.hbm, 110, rfl⟩
abbrev main_call0_v5 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩

abbrev nD : Nat := 1
abbrev τ : Topo := Topo.v7x

variable {F : FTy → Type} [FloatOps F]
-- ==== Proof.KernelFrame.lean ====
/-
  The kernel as written: at any values it runs to its end, its arguments unchanged and every semaphore counter at zero. Nothing is
  said here of what it computes, so one statement about the body covers all of its points: every buffer it writes ends at something.
-/
module

public import proofs.«01_k».proof.Proof.Gen.Kernel.Skeleton
public import proofs.«01_k».proof.Proof.Gen.Kernel.Frame
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

/-- The kernel's own scratch buffers, whole. -/
abbrev scH : Memref sig .tc .vmem S8192x32 .f32 := Memref.whole cc0_scratch0
abbrev scY : Memref sig .tc .vmem S1024x256 .f32 := Memref.whole cc0_scratch1
abbrev scW : Memref sig .tc .vmem S2048x32 .f32 := Memref.whole cc0_scratch2
abbrev scT : Memref sig .tc .vmem S2048x128 .f32 := Memref.whole cc0_scratch3

/-- The first point's condition, as the body computes it. -/
abbrev cond1 (i : grid0.Coords) : BitVec 1 :=
  Scalar.cmpi .ne (Scalar.extui (Scalar.cmpi .eq (BitVec.ofNat 32 (i 0).val) 0#32) : BitVec 32) 0#32

/-- The four kinds of grid point: which of the body's four branches are taken. -/
def Kind (i : grid0.Coords) : Prop :=
  (cond1 i = 1#1 ∧ k0_cond2 i = 1#1 ∧ ¬ k0_cond3 i = 1#1 ∧ ¬ k0_cond4 i = 1#1)
  ∨ (¬ cond1 i = 1#1 ∧ k0_cond2 i = 1#1 ∧ ¬ k0_cond3 i = 1#1 ∧ ¬ k0_cond4 i = 1#1)
  ∨ (¬ cond1 i = 1#1 ∧ ¬ k0_cond2 i = 1#1 ∧ k0_cond3 i = 1#1 ∧ ¬ k0_cond4 i = 1#1)
  ∨ (¬ cond1 i = 1#1 ∧ ¬ k0_cond2 i = 1#1 ∧ ¬ k0_cond3 i = 1#1 ∧ k0_cond4 i = 1#1)

instance (i : grid0.Coords) : Decidable (Kind i) := by unfold Kind; infer_instance

theorem kind_all : ∀ t : Fin grid0.N, Kind (grid0.coords t) := by decide +kernel

/-- The body at a point of any kind: it returns, the three input blocks as they were and everything else at some contents. -/
theorem run_any (c : Dev nD) (i : grid0.Coords)
    (arg1 : Memref sig .tc .vmem S32x1024 .f32) (harg1 : arg1.IsWhole) (arg2 : Memref sig .tc .vmem S8x1024 .f32) (harg2 : arg2.IsWhole)
    (arg3 : Memref sig .tc .vmem S8x262144 .f32) (harg3 : arg3.IsWhole) (arg4 : Memref sig .tc .vmem S32x1024 .f32) (harg4 : arg4.IsWhole)
    (hk : Kind i) (X1 : FVec F S32x1024 .f32) (X2 : FVec F S8x1024 .f32) (X3 : FVec F S8x262144 .f32) (K : PUnit → sProp 𝕄) :
    iprop(owns (c : Thread nD τ) arg1 fullShare X1 ∗ owns (c : Thread nD τ) arg2 fullShare X2 ∗ owns (c : Thread nD τ) arg3 fullShare X3
        ∗ (∃ d, owns (c : Thread nD τ) arg4 fullShare d) ∗ (∃ d, owns (c : Thread nD τ) scH fullShare d)
        ∗ (∃ d, owns (c : Thread nD τ) scY fullShare d) ∗ (∃ d, owns (c : Thread nD τ) scW fullShare d) ∗ (∃ d, owns (c : Thread nD τ) scT fullShare d)
        ∗ (iprop(owns (c : Thread nD τ) arg1 fullShare X1 ∗ owns (c : Thread nD τ) arg2 fullShare X2 ∗ owns (c : Thread nD τ) arg3 fullShare X3
            ∗ (∃ d, owns (c : Thread nD τ) arg4 fullShare d) ∗ (∃ d, owns (c : Thread nD τ) scH fullShare d)
            ∗ (∃ d, owns (c : Thread nD τ) scY fullShare d) ∗ (∃ d, owns (c : Thread nD τ) scW fullShare d)
            ∗ (∃ d, owns (c : Thread nD τ) scT fullShare d)) -∗ K ⟨⟩))
      ⊢ wp frame (wpE (defs₀ (F := F)) Variants.none c none) Set.univ
          (cc0__moe_kernel i arg1 harg1 arg2 harg2 arg3 harg3 arg4 harg4 scH (Memref.isWhole_whole _)
            scY (Memref.isWhole_whole _) scW (Memref.isWhole_whole _) scT (Memref.isWhole_whole _)) K := by
  simp only [cc0__moe_kernel_eq_skeleton]; unfold cc0__moe_kernel_skel
  unfold owns
  rcases hk with ⟨h1, h2, h3, h4⟩ | ⟨h1, h2, h3, h4⟩ | ⟨h1, h2, h3, h4⟩ | ⟨h1, h2, h3, h4⟩
  all_goals
    iintro ⟨⟨%f1, %e1, H1⟩, ⟨%f2, %e2, H2⟩, ⟨%f3, %e3, H3⟩, ⟨%d4, %f4, %e4, H4⟩, ⟨%d5, %f5, %e5, H5⟩, ⟨%d6, %f6, %e6, H6⟩, ⟨%d7, %f7, %e7, H7⟩,
      ⟨%d8, %f8, %e8, H8⟩, Hk⟩
    sl_exec_parts
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

/-! ## The proof data and the launch -/

variable (m : (ℓ : Loc nD τ sig) → Buf (Elt F) ℓ) (ρ : Dev nD → PrngReg)

/-- Nothing is said of the output. -/
def forgets0 : Fin cfg0.W → Bool := fun w => match w with
  | 0 => false
  | 1 => false
  | 2 => false
  | 3 => true

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Pipeline.Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant between points, buffer by buffer. -/
theorem phi_eq (c : Dev nD) : (Pipeline.ΦA spec0 c : sProp 𝕄)
    = iprop(iprop((∃ d, owns (c : Thread nD τ) scH fullShare d) ∗ (∃ d, owns (c : Thread nD τ) scY fullShare d)
        ∗ (∃ d, owns (c : Thread nD τ) scW fullShare d) ∗ (∃ d, owns (c : Thread nD τ) scT fullShare d)) ∗ ∃ r, prngReg c r) := by
  unfold Pipeline.ΦA
  rw [scopedRest0_eq]; simp only [scH, scY, scW, scT, owns_whole]; try rfl

def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

def bodyPost (c : Dev nD) (t : Fin cfg0.N) : sProp 𝕄 :=
  iprop(Pipeline.ΦA spec0 c ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ d, owns (c : Thread nD τ) (st0_3 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [phi_eq]
  simp only [before0_0_of m (dats m 0 c) (A_eq m c 0) (fun _ => rfl), before0_1_of m (dats m 0 c) (A_eq m c 1) (fun _ => rfl),
    before0_2_of m (dats m 0 c) (A_eq m c 2) (fun _ => rfl)]
  iintro ⟨⟨⟨H5, H6, H7, H8⟩, Hg⟩, HO, ⟨%d0, H1⟩, ⟨%d1, H2⟩, ⟨%d2, H3⟩, H4⟩
  iapply (run_any c (grid0.coords t) _ _ _ _ _ _ _ _ (kind_all t) (iblk m c 0 t) (iblk m c 1 t) (iblk m c 2 t) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  isplitl [H5 H6 H7 H8 Hg]
  · isplitl [H5 H6 H7 H8]
    · isplitl [H5]; · iexact H5
      isplitl [H6]; · iexact H6
      isplitl [H7]; · iexact H7
      iexact H8
    iexact Hg
  isplitl [HO]; · iexact HO
  isplitl [H1]; · iexact H1
  isplitl [H2]; · iexact H2
  isplitl [H3]; · iexact H3
  iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters every weakly fair execution terminates, with every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: the arguments end as they began and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨((h.1 c).2 main_arg0 (Pipeline.mem_restRefs_of main_arg0 (by decide) (by decide))).trans (V_main_arg0 m c),
      (by have h1 := (h.1 c).1 0; rw [((dats m 0 c).toRForget forgets0).ArrAt_in 0 rfl] at h1; exact h1.trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Kernel.Hand

end
-- ==== Proof.Stack.lean ====
/-
  How the kernel moves its blocks of weights, read at an index. A block of a weight matrix arrives as 8 rows (one per
  expert) of 262144 columns (256 rows of 1024 numbers laid end to end). The kernel cuts the columns into 256 slices of
  1024 and stacks the slices, so row `8 r + e` of the stack is row `r` of expert `e` (`wStack`). The activations of the
  experts, one below the other, are regrouped into one column group per expert (`yBlk`).
-/
module

public import proofs.«01_k».proof.Proof.Gen.KernelIdeal.Skeleton
public import Idealize.ShloMosaic.Lib.Pipeline.Value
public import Idealize.ShloMosaic.Lib.ValueIdx

@[expose] public section

noncomputable section

namespace Cert.KernelIdeal.Hand

open Cert.KernelIdeal Cert.KernelIdeal.Gen
open Idealize.ShloMosaic Idealize.ShloMosaic.ValueIdx

variable {α : Type} {F : FTy → Type} [FloatOps F]

/-! ## The stack of slices -/

theorem slices_at (n : Fin 256) : S8x262144.Slices ![0, 1024 * n.val] S8x1024 := by revert n; decide

/-- Slice `n` of a block: columns `1024 n` to `1024 n + 1023`. -/
def wSlice (b : S8x262144.Idx → α) (n : Fin 256) : S8x1024.Idx → α :=
  extractStridedSlice S8x1024 ![0, 1024 * n.val] b (slices_at n)

/-- The 256 slices of a block, one below the other. -/
def wStack (b : S8x262144.Idx → α) : S2048x1024.Idx → α := fun p =>
  b (ix2 ⟨(p 0).val % 8, Nat.mod_lt _ (by decide)⟩
    ⟨(p 0).val / 8 * 1024 + (p 1).val, by have h0 : (p 0).val < 2048 := (p 0).isLt; have h1 : (p 1).val < 1024 := (p 1).isLt; omega⟩)

/-- The concatenation of the 256 slices is the stack. -/
theorem concatenate_wSlice (b : S8x262144.Idx → α)
    (h : Shape.Concatenates ((List.ofFn fun n : Fin 256 => (⟨S8x1024, wSlice b n⟩ : (s : Shape) × (s.Idx → α))).map (·.1)) S2048x1024 0) :
    concatenate S2048x1024 0 (List.ofFn fun n : Fin 256 => (⟨S8x1024, wSlice b n⟩ : (s : Shape) × (s.Idx → α))) h = wStack b := by
  funext p
  have h0 : (p 0).val < 2048 := (p 0).isLt
  have h1 : (p 1).val < 1024 := (p 1).isLt
  rw [concatenate_ofFn_apply (s₁ := S8x1024) 0 (fun n => wSlice b n) h rfl 8 rfl p ⟨(p 0).val / 8, by omega⟩ rfl
    (ix2 ⟨(p 0).val % 8, Nat.mod_lt _ (by decide)⟩ ⟨(p 1).val, h1⟩) rfl
    (fun a ha => by match a with | ⟨0, _⟩ => exact absurd rfl ha | ⟨1, _⟩ => rfl)]
  unfold wSlice wStack extractStridedSlice
  congr 1
  funext a
  match a with
  | ⟨0, _⟩ => exact Fin.ext (Nat.zero_add _)
  | ⟨1, _⟩ => exact Fin.ext (by show 1024 * ((p 0).val / 8) + (p 1).val = _; rw [Nat.mul_comm])

/-- The same with the slices listed one by one. -/
theorem concatenate_eq_wStack (b : S8x262144.Idx → α) (l : List ((s : Shape) × (s.Idx → α)))
    (hl : l = List.ofFn fun n : Fin 256 => (⟨S8x1024, wSlice b n⟩ : (s : Shape) × (s.Idx → α)))
    (h : Shape.Concatenates (l.map (·.1)) S2048x1024 0) : concatenate S2048x1024 0 l h = wStack b := by
  subst hl; exact concatenate_wSlice b h

/-! ## The regrouping of the activations -/

theorem inb_strided (e : Fin 8) : ∀ a, S256x128.size a = 0 ∨
    (![e.val, 0] : Fin 2 → Nat) a + (![8, 1] : Fin 2 → Nat) a * (S256x128.size a - 1) < S2048x128.size a := by
  revert e; decide

/-- The rows `e`, `8 + e`, `16 + e`, … of a buffer of 2048 rows. -/
def stridedRect (e : Fin 8) : LoadRect S2048x128 := ⟨![e.val, 0], S256x128.size, ![8, 1], inb_strided e⟩

/-- What a load of those rows reads. -/
def strided (T : S2048x128.Idx → α) (e : Fin 8) : S256x128.Idx → α := fun x => T ((stridedRect e).idx x)

theorem strided_idx (e : Fin 8) (x : S256x128.Idx) : (stridedRect e).idx x
    = ix2 (⟨(x 0).val * 8 + e.val, by have h0 : (x 0).val < 256 := (x 0).isLt; omega⟩ : Fin 2048) (x 1) := by
  funext a
  match a with
  | ⟨0, _⟩ => exact Fin.ext (by show e.val + 8 * (x 0).val = (x 0).val * 8 + e.val; omega)
  | ⟨1, _⟩ => exact Fin.ext (by show 0 + 1 * (x 1).val = (x 1).val; omega)

theorem strided_apply (T : S2048x128.Idx → α) (e : Fin 8) (x : S256x128.Idx) : strided T e x
    = T (ix2 (⟨(x 0).val * 8 + e.val, by have h0 : (x 0).val < 256 := (x 0).isLt; omega⟩ : Fin 2048) (x 1)) :=
  congrArg T (strided_idx e x)

/-- Rows `8 r + e` of the activations, regrouped: row `r`, columns `32 e` to `32 e + 31`. -/
def yBlk (a : S2048x32.Idx → α) : S256x256.Idx → α := fun q =>
  a (ix2 ⟨(q 0).val * 8 + (q 1).val / 32, by have h0 : (q 0).val < 256 := (q 0).isLt; have h1 : (q 1).val < 256 := (q 1).isLt; omega⟩
    ⟨(q 1).val % 32, Nat.mod_lt _ (by decide)⟩)

/-- Piece `e` of the regrouping: the first 32 columns of the strided rows. -/
def yPiece (T : S2048x128.Idx → α) (e : Fin 8) : S256x32.Idx → α :=
  extractStridedSlice S256x32 ![0, 0] (strided T e) slices_S256x128_o0_0_S256x32

/-- The eight pieces side by side are the regrouping of what the first 32 columns of the buffer hold. -/
theorem concatenate_yPiece (T : S2048x128.Idx → α) (a : S2048x32.Idx → α)
    (hT : ∀ (r : Fin 2048) (t : Fin 32), T (ix2 r ⟨t.val, by omega⟩) = a (ix2 r t))
    (h : Shape.Concatenates ((List.ofFn fun e : Fin 8 => (⟨S256x32, yPiece T e⟩ : (s : Shape) × (s.Idx → α))).map (·.1)) S256x256 1) :
    concatenate S256x256 1 (List.ofFn fun e : Fin 8 => (⟨S256x32, yPiece T e⟩ : (s : Shape) × (s.Idx → α))) h = yBlk a := by
  funext q
  have h0 : (q 0).val < 256 := (q 0).isLt
  have h1 : (q 1).val < 256 := (q 1).isLt
  rw [concatenate_ofFn_apply (s₁ := S256x32) 1 (fun e => yPiece T e) h rfl 32 rfl q ⟨(q 1).val / 32, by omega⟩ rfl
    (ix2 ⟨(q 0).val, h0⟩ ⟨(q 1).val % 32, Nat.mod_lt _ (by decide)⟩) rfl
    (fun b hb => by match b with | ⟨0, _⟩ => rfl | ⟨1, _⟩ => exact absurd rfl hb)]
  unfold yPiece yBlk extractStridedSlice
  rw [strided_apply, ← hT]
  congr 1
  funext b
  match b with
  | ⟨0, _⟩ => exact Fin.ext (by show (0 + (q 0).val) * 8 + _ = _; rw [Nat.zero_add])
  | ⟨1, _⟩ => exact Fin.ext (by show 0 + (q 1).val % 32 = _; rw [Nat.zero_add])

/-! ## The output block -/

/-- Expert `e`'s part of the product: rows `8 r + e`, columns `32 e` to `32 e + 31`. -/
def oPiece (o : S2048x256.Idx → α) (e : Fin 8) : S256x32.Idx → α := fun q =>
  o (ix2 ⟨(q 0).val * 8 + e.val, by have h0 : (q 0).val < 256 := (q 0).isLt; omega⟩
    ⟨e.val * 32 + (q 1).val, by have h1 : (q 1).val < 32 := (q 1).isLt; omega⟩)

/-- A strided load's 32 columns, of a buffer holding 128 of the product's columns, are the expert's part. -/
theorem slice_strided (T : S2048x128.Idx → α) (o : S2048x256.Idx → α) (k : Nat) (hk : k + 128 ≤ 256)
    (hT : ∀ (r : Fin 2048) (t : Fin 128), T (ix2 r t) = o (ix2 r ⟨k + t.val, by omega⟩))
    (e : Fin 8) (c : Nat) (hc : k + c = e.val * 32) (h : S256x128.Slices ![0, c] S256x32) :
    extractStridedSlice S256x32 ![0, c] (strided T e) h = oPiece o e := by
  funext q
  unfold oPiece extractStridedSlice
  rw [strided_apply]
  refine (hT _ _).trans ?_
  congr 1
  funext b
  match b with
  | ⟨0, _⟩ => exact Fin.ext (by show (0 + (q 0).val) * 8 + _ = _; rw [Nat.zero_add])
  | ⟨1, _⟩ => exact Fin.ext (by show k + (c + (q 1).val) = e.val * 32 + (q 1).val; omega)

/-! ## The three computations of a grid point -/

/-- The product of a stacked block with the tokens. -/
def hid (b : FVec F S8x262144 .f32) (x : FVec F S32x1024 .f32) : FVec F S2048x32 .f32 :=
  matmul dot_S2048x1024_S32x1024_S2048x32_1_1_0_0_n_n none (truncf .bf16 (wStack b) bitsLt_bf16_f32)
    (truncf .bf16 x bitsLt_bf16_f32) (constant S2048x32 .f32 0x00000000#32)

/-- The weighted activations: the gate's product `g`, the second product, the routing weights `w`. -/
def act (b : FVec F S8x262144 .f32) (x : FVec F S32x1024 .f32) (g w : FVec F S2048x32 .f32) : FVec F S2048x32 .f32 :=
  mulf (mulf (mulf g (logistic g)) (hid b x)) w

/-- The product of a stacked block with the regrouped activations. -/
def outMat (b : FVec F S8x262144 .f32) (y : FVec F S1024x256 .f32) : FVec F S2048x256 .f32 :=
  matmul dot_S2048x1024_S1024x256_S2048x256_1_0_0_1_n_n none (truncf .bf16 (wStack b) bitsLt_bf16_f32)
    (truncf .bf16 y bitsLt_bf16_f32) (constant S2048x256 .f32 0x00000000#32)

/-- The experts' parts added up, tokens on the rows. -/
def oBlk (o : FVec F S2048x256 .f32) : FVec F S32x256 .f32 :=
  transpose S32x256 [1, 0] (addf (addf (addf (addf (addf (addf (addf (oPiece o 0) (oPiece o 1)) (oPiece o 2)) (oPiece o 3))
    (oPiece o 4)) (oPiece o 5)) (oPiece o 6)) (oPiece o 7)) transposes_S256x32_p1_0_S32x256

/-- A slice of 128 columns of the product, at an index. -/
theorem slice_cols (o : S2048x256.Idx → α) (k : Nat) (hk : k + 128 ≤ 256) (h : S2048x256.Slices ![0, k] S2048x128) (r : Fin 2048) (t : Fin 128) :
    extractStridedSlice S2048x128 ![0, k] o h (ix2 r t) = o (ix2 r ⟨k + t.val, by omega⟩) := by
  unfold extractStridedSlice
  congr 1
  funext b
  match b with
  | ⟨0, _⟩ => exact Fin.ext (Nat.zero_add _)
  | ⟨1, _⟩ => rfl

/-- The eight pieces cut out of strided reads of the product's two column blocks, summed and transposed. -/
theorem oBlk_of_strided (o : FVec F S2048x256 .f32) (T0 T1 : FVec F S2048x128 .f32)
    (hT0 : ∀ (r : Fin 2048) (t : Fin 128), T0 (ix2 r t) = o (ix2 r ⟨0 + t.val, by omega⟩))
    (hT1 : ∀ (r : Fin 2048) (t : Fin 128), T1 (ix2 r t) = o (ix2 r ⟨128 + t.val, by omega⟩)) :
    transpose S32x256 [1, 0] (addf (addf (addf (addf (addf (addf (addf
      (extractStridedSlice S256x32 ![0, 0] (strided T0 0) slices_S256x128_o0_0_S256x32)
      (extractStridedSlice S256x32 ![0, 32] (strided T0 1) slices_S256x128_o0_32_S256x32))
      (extractStridedSlice S256x32 ![0, 64] (strided T0 2) slices_S256x128_o0_64_S256x32))
      (extractStridedSlice S256x32 ![0, 96] (strided T0 3) slices_S256x128_o0_96_S256x32))
      (extractStridedSlice S256x32 ![0, 0] (strided T1 4) slices_S256x128_o0_0_S256x32))
      (extractStridedSlice S256x32 ![0, 32] (strided T1 5) slices_S256x128_o0_32_S256x32))
      (extractStridedSlice S256x32 ![0, 64] (strided T1 6) slices_S256x128_o0_64_S256x32))
      (extractStridedSlice S256x32 ![0, 96] (strided T1 7) slices_S256x128_o0_96_S256x32)) transposes_S256x32_p1_0_S32x256 = oBlk o := by
  rw [slice_strided T0 o 0 (by omega) hT0 0 0 rfl, slice_strided T0 o 0 (by omega) hT0 1 32 rfl, slice_strided T0 o 0 (by omega) hT0 2 64 rfl,
    slice_strided T0 o 0 (by omega) hT0 3 96 rfl, slice_strided T1 o 128 (by omega) hT1 4 0 rfl, slice_strided T1 o 128 (by omega) hT1 5 32 rfl,
    slice_strided T1 o 128 (by omega) hT1 6 64 rfl, slice_strided T1 o 128 (by omega) hT1 7 96 rfl]
  rfl

end Cert.KernelIdeal.Hand

end
-- ==== Proof.Body.lean ====
/-
  The kernel's body at a grid point, run once per kind of point: the first point (the routing weights, then a block of the
  gate's product), points 1 to 3 (a block of the gate's product), points 4 to 7 (a block of the regrouped activations) and
  points 8 to 11 (a block of the output's columns). Each run says what every buffer the body touches holds afterwards.
-/
module

public import proofs.«01_k».proof.Proof.Gen.KernelIdeal.Frame
public import proofs.«01_k».proof.Proof.Stack
public import Idealize.ShloMosaic.Lib.VecWindow
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)

variable {F : FTy → Type} [FloatOps F] [∀ e, Nonempty (Elt F e)]

local notation "𝕄" => MT nD τ sig Unit (Elt F) ℕ (UR sig nD τ) ℕ

/-- The kernel's own scratch buffers, whole: the gate's products, the regrouped activations, the routing weights, and
    the buffer the strided loads read. -/
abbrev scH : Memref sig .tc .vmem S8192x32 .f32 := Memref.whole cc0_scratch0
abbrev scY : Memref sig .tc .vmem S1024x256 .f32 := Memref.whole cc0_scratch1
abbrev scW : Memref sig .tc .vmem S2048x32 .f32 := Memref.whole cc0_scratch2
abbrev scT : Memref sig .tc .vmem S2048x128 .f32 := Memref.whole cc0_scratch3

/-- The first point's condition, as the body computes it. -/
abbrev cond1 (i : grid0.Coords) : BitVec 1 :=
  Scalar.cmpi .ne (Scalar.extui (Scalar.cmpi .eq (BitVec.ofNat 32 (i 0).val) 0#32) : BitVec 32) 0#32

/-- The routing weights the first point stores: 256 copies of the 8 rows, one under the other. -/
def fwRep (x : FVec F S32x1024 .f32) (rw : FVec F S8x1024 .f32) : FVec F S2048x32 .f32 :=
  k0_pay1 (k0_pay8 x rw) (k0_pay11 x rw) (k0_pay12 x rw) (k0_pay13 x rw) (Scalar.ofBits .f32 0x00000000#32) (k0_pay14 x rw)

/-- What a load of a whole block of weights reads. -/
theorem load_block (arg3 : Memref sig .tc .vmem S8x262144 .f32) (f3 : BufTy.Contents (Elt F) arg3.view.ty) (X3 : FVec F S8x262144 .f32)
    (e3 : View.read (Elt F) arg3.view f3 = X3) (h : S8x262144.ShapeCasts S8x262144) :
    shapeCast S8x262144 (View.readAt (Elt F) arg3.view (Rect.unit ![0, 0] S8x262144.size inb_S8x262144_S8x262144_0_0).toLoadRect f3) h = X3 :=
  (shapeCast_self _ _).trans ((View.readAt_full _ _ _).trans e3)

/-- The block of the gate's product, its stack listed slice by slice. -/
theorem hid_of_list (b b' : FVec F S8x262144 .f32) (hb : b' = b) (x x' : FVec F S32x1024 .f32) (hx : x' = x)
    (l : List ((s : Shape) × (s.Idx → F .f32)))
    (hl : l = List.ofFn fun n : Fin 256 => (⟨S8x1024, wSlice b' n⟩ : (s : Shape) × (s.Idx → F .f32)))
    (hc : Shape.Concatenates (l.map (·.1)) S2048x1024 0) :
    matmul dot_S2048x1024_S32x1024_S2048x32_1_1_0_0_n_n none (truncf .bf16 (concatenate S2048x1024 0 l hc : FVec F S2048x1024 .f32) bitsLt_bf16_f32)
      (truncf .bf16 x' bitsLt_bf16_f32) (constant S2048x32 .f32 0x00000000#32) = hid b x := by
  subst hb hx
  rw [concatenate_eq_wStack b' l hl hc]; rfl

/-- The activations, the second product's stack listed slice by slice. -/
theorem act_of_list (b b' : FVec F S8x262144 .f32) (hb : b' = b) (x x' : FVec F S32x1024 .f32) (hx : x' = x)
    (g g' : FVec F S2048x32 .f32) (hg : g' = g) (w w' : FVec F S2048x32 .f32) (hw : w' = w)
    (l : List ((s : Shape) × (s.Idx → F .f32)))
    (hl : l = List.ofFn fun n : Fin 256 => (⟨S8x1024, wSlice b' n⟩ : (s : Shape) × (s.Idx → F .f32)))
    (hc : Shape.Concatenates (l.map (·.1)) S2048x1024 0) :
    mulf (mulf (mulf g' (logistic g'))
      (matmul dot_S2048x1024_S32x1024_S2048x32_1_1_0_0_n_n none (truncf .bf16 (concatenate S2048x1024 0 l hc : FVec F S2048x1024 .f32) bitsLt_bf16_f32)
        (truncf .bf16 x' bitsLt_bf16_f32) (constant S2048x32 .f32 0x00000000#32))) w' = act b x g w := by
  rw [hid_of_list b b' hb x x' hx l hl hc, hg, hw]; rfl

/-- The product with the regrouped activations, its stack listed slice by slice. -/
theorem outMat_of_list (b b' : FVec F S8x262144 .f32) (hb : b' = b) (y y' : FVec F S1024x256 .f32) (hy : y' = y)
    (l : List ((s : Shape) × (s.Idx → F .f32)))
    (hl : l = List.ofFn fun n : Fin 256 => (⟨S8x1024, wSlice b' n⟩ : (s : Shape) × (s.Idx → F .f32)))
    (hc : Shape.Concatenates (l.map (·.1)) S2048x1024 0) :
    matmul dot_S2048x1024_S1024x256_S2048x256_1_0_0_1_n_n none (truncf .bf16 (concatenate S2048x1024 0 l hc : FVec F S2048x1024 .f32) bitsLt_bf16_f32)
      (truncf .bf16 y' bitsLt_bf16_f32) (constant S2048x256 .f32 0x00000000#32) = outMat b y := by
  subst hb hy
  rw [concatenate_eq_wStack b' l hl hc]; rfl

/-- The gate's products after a point that writes a block of them. -/
def putH (i : grid0.Coords) (D : FVec F S8192x32 .f32) (v : FVec F S2048x32 .f32) : FVec F S8192x32 .f32 :=
  VecWindow.put D ![2048 * (i 0).val, 0] S2048x32.size v

/-- The gate's products a point of the second kind reads. -/
def getH (i : grid0.Coords) (h : k0_cond3 i = 1#1) (D : FVec F S8192x32 .f32) : FVec F S2048x32 .f32 :=
  VecWindow.window D (k0_off2 i) S2048x32.size (k0_off2_inb i h)

/-- The regrouped activations after a point that writes a block of them. -/
def putY (i : grid0.Coords) (D : FVec F S1024x256 .f32) (v : FVec F S256x256 .f32) : FVec F S1024x256 .f32 :=
  VecWindow.put D (k0_off3 i) S256x256.size v

/-- The output after a point that writes a block of its columns. -/
def putO (i : grid0.Coords) (D : FVec F S32x1024 .f32) (v : FVec F S32x256 .f32) : FVec F S32x1024 .f32 :=
  VecWindow.put D (k0_off4 i) S32x256.size v

/-- The first point. -/
theorem runA (c : Dev nD) (i : grid0.Coords)
    (arg1 : Memref sig .tc .vmem S32x1024 .f32) (harg1 : arg1.IsWhole) (arg2 : Memref sig .tc .vmem S8x1024 .f32) (harg2 : arg2.IsWhole)
    (arg3 : Memref sig .tc .vmem S8x262144 .f32) (harg3 : arg3.IsWhole) (arg4 : Memref sig .tc .vmem S32x1024 .f32) (harg4 : arg4.IsWhole)
    (h1 : cond1 i = 1#1) (h2 : k0_cond2 i = 1#1) (h3 : ¬ k0_cond3 i = 1#1) (h4 : ¬ k0_cond4 i = 1#1)
    (X1 : FVec F S32x1024 .f32) (X2 : FVec F S8x1024 .f32) (X3 : FVec F S8x262144 .f32) (X4 : FVec F S32x1024 .f32)
    (D5 : FVec F S8192x32 .f32) (D6 : FVec F S1024x256 .f32) (D7 : FVec F S2048x32 .f32) (D8 : FVec F S2048x128 .f32)
    (K : PUnit → sProp 𝕄) :
    iprop(owns (c : Thread nD τ) arg1 fullShare X1 ∗ owns (c : Thread nD τ) arg2 fullShare X2
        ∗ owns (c : Thread nD τ) arg3 fullShare X3 ∗ owns (c : Thread nD τ) arg4 fullShare X4
        ∗ owns (c : Thread nD τ) scH fullShare D5 ∗ owns (c : Thread nD τ) scY fullShare D6
        ∗ owns (c : Thread nD τ) scW fullShare D7 ∗ owns (c : Thread nD τ) scT fullShare D8
        ∗ (iprop(owns (c : Thread nD τ) arg1 fullShare X1 ∗ owns (c : Thread nD τ) arg2 fullShare X2
            ∗ owns (c : Thread nD τ) arg3 fullShare X3 ∗ owns (c : Thread nD τ) arg4 fullShare X4
            ∗ owns (c : Thread nD τ) scH fullShare (putH i D5 (hid X3 X1)) ∗ owns (c : Thread nD τ) scY fullShare D6
            ∗ owns (c : Thread nD τ) scW fullShare (fwRep X1 X2) ∗ (∃ D, owns (c : Thread nD τ) scT fullShare D)) -∗ K ⟨⟩))
      ⊢ wp frame (wpE (defs₀ (F := F)) Variants.none c none) Set.univ
          (cc0__moe_kernel i arg1 harg1 arg2 harg2 arg3 harg3 arg4 harg4 scH (Memref.isWhole_whole _)
            scY (Memref.isWhole_whole _) scW (Memref.isWhole_whole _) scT (Memref.isWhole_whole _)) K := by
  simp only [cc0__moe_kernel_eq_skeleton]; unfold cc0__moe_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  sl_exec_parts
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro;
    unfold putH
    rw [View.read_writes_cons_put (v := scH.view) (h := k0_off1_eq i), View.writes_nil, e5]
    refine congrArg _ ((shapeCast_self _ _).trans ?_)
    unfold runA.sl.v272 k0_pay2
    exact hid_of_list X3 _ (load_block arg3 f3 X3 e3 shapeCasts_S8x262144_S8x262144) X1 _ ((View.readAt_full _ _ _).trans e1) _ rfl _
  isplitl [H6]
  · iexists _; isplitr; swap; · iexact H6
    ipureintro; exact e6
  isplitl [H7]
  · iexists _; isplitr; swap; · iexact H7
    ipureintro;
    unfold runA.sl.H7_1
    rw [View.read_writes_full (v := scW.view)]
    have h1 : View.readAt (Elt F) arg1.view (Rect.unit ![0, 0] S32x1024.size inb_S32x1024_S32x1024_0_0).toLoadRect f1 = X1 :=
      (View.readAt_full _ _ _).trans e1
    have h2 : View.readAt (Elt F) arg2.view (Rect.unit ![0, 0] S8x1024.size inb_S8x1024_S8x1024_0_0).toLoadRect f2 = X2 :=
      (View.readAt_full _ _ _).trans e2
    rw [← h1, ← h2]; rfl
  iexists _, _; isplitr; swap; · iexact H8
  ipureintro; rfl

/-- Points 1 to 3. -/
theorem runB (c : Dev nD) (i : grid0.Coords)
    (arg1 : Memref sig .tc .vmem S32x1024 .f32) (harg1 : arg1.IsWhole) (arg2 : Memref sig .tc .vmem S8x1024 .f32) (harg2 : arg2.IsWhole)
    (arg3 : Memref sig .tc .vmem S8x262144 .f32) (harg3 : arg3.IsWhole) (arg4 : Memref sig .tc .vmem S32x1024 .f32) (harg4 : arg4.IsWhole)
    (h1 : ¬ cond1 i = 1#1) (h2 : k0_cond2 i = 1#1) (h3 : ¬ k0_cond3 i = 1#1) (h4 : ¬ k0_cond4 i = 1#1)
    (X1 : FVec F S32x1024 .f32) (X2 : FVec F S8x1024 .f32) (X3 : FVec F S8x262144 .f32) (X4 : FVec F S32x1024 .f32)
    (D5 : FVec F S8192x32 .f32) (D6 : FVec F S1024x256 .f32) (D7 : FVec F S2048x32 .f32) (D8 : FVec F S2048x128 .f32)
    (K : PUnit → sProp 𝕄) :
    iprop(owns (c : Thread nD τ) arg1 fullShare X1 ∗ owns (c : Thread nD τ) arg2 fullShare X2
        ∗ owns (c : Thread nD τ) arg3 fullShare X3 ∗ owns (c : Thread nD τ) arg4 fullShare X4
        ∗ owns (c : Thread nD τ) scH fullShare D5 ∗ owns (c : Thread nD τ) scY fullShare D6
        ∗ owns (c : Thread nD τ) scW fullShare D7 ∗ owns (c : Thread nD τ) scT fullShare D8
        ∗ (iprop(owns (c : Thread nD τ) arg1 fullShare X1 ∗ owns (c : Thread nD τ) arg2 fullShare X2
            ∗ owns (c : Thread nD τ) arg3 fullShare X3 ∗ owns (c : Thread nD τ) arg4 fullShare X4
            ∗ owns (c : Thread nD τ) scH fullShare (putH i D5 (hid X3 X1)) ∗ owns (c : Thread nD τ) scY fullShare D6
            ∗ owns (c : Thread nD τ) scW fullShare D7 ∗ (∃ D, owns (c : Thread nD τ) scT fullShare D)) -∗ K ⟨⟩))
      ⊢ wp frame (wpE (defs₀ (F := F)) Variants.none c none) Set.univ
          (cc0__moe_kernel i arg1 harg1 arg2 harg2 arg3 harg3 arg4 harg4 scH (Memref.isWhole_whole _)
            scY (Memref.isWhole_whole _) scW (Memref.isWhole_whole _) scT (Memref.isWhole_whole _)) K := by
  simp only [cc0__moe_kernel_eq_skeleton]; unfold cc0__moe_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  sl_exec_parts
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro;
    unfold putH
    rw [View.read_writes_cons_put (v := scH.view) (h := k0_off1_eq i), View.writes_nil, e5]
    refine congrArg _ ((shapeCast_self _ _).trans ?_)
    unfold runB.sl.v272 k0_pay2
    exact hid_of_list X3 _ (load_block arg3 f3 X3 e3 shapeCasts_S8x262144_S8x262144) X1 _ ((View.readAt_full _ _ _).trans e1) _ rfl _
  isplitl [H6]
  · iexists _; isplitr; swap; · iexact H6
    ipureintro; exact e6
  isplitl [H7]
  · iexists _; isplitr; swap; · iexact H7
    ipureintro; exact e7
  iexists _, _; isplitr; swap; · iexact H8
  ipureintro; rfl

/-- Points 4 to 7. -/
theorem runC (c : Dev nD) (i : grid0.Coords)
    (arg1 : Memref sig .tc .vmem S32x1024 .f32) (harg1 : arg1.IsWhole) (arg2 : Memref sig .tc .vmem S8x1024 .f32) (harg2 : arg2.IsWhole)
    (arg3 : Memref sig .tc .vmem S8x262144 .f32) (harg3 : arg3.IsWhole) (arg4 : Memref sig .tc .vmem S32x1024 .f32) (harg4 : arg4.IsWhole)
    (h1 : ¬ cond1 i = 1#1) (h2 : ¬ k0_cond2 i = 1#1) (h3 : k0_cond3 i = 1#1) (h4 : ¬ k0_cond4 i = 1#1)
    (X1 : FVec F S32x1024 .f32) (X2 : FVec F S8x1024 .f32) (X3 : FVec F S8x262144 .f32) (X4 : FVec F S32x1024 .f32)
    (D5 : FVec F S8192x32 .f32) (D6 : FVec F S1024x256 .f32) (D7 : FVec F S2048x32 .f32) (D8 : FVec F S2048x128 .f32)
    (K : PUnit → sProp 𝕄) :
    iprop(owns (c : Thread nD τ) arg1 fullShare X1 ∗ owns (c : Thread nD τ) arg2 fullShare X2
        ∗ owns (c : Thread nD τ) arg3 fullShare X3 ∗ owns (c : Thread nD τ) arg4 fullShare X4
        ∗ owns (c : Thread nD τ) scH fullShare D5 ∗ owns (c : Thread nD τ) scY fullShare D6
        ∗ owns (c : Thread nD τ) scW fullShare D7 ∗ owns (c : Thread nD τ) scT fullShare D8
        ∗ (iprop(owns (c : Thread nD τ) arg1 fullShare X1 ∗ owns (c : Thread nD τ) arg2 fullShare X2
            ∗ owns (c : Thread nD τ) arg3 fullShare X3 ∗ owns (c : Thread nD τ) arg4 fullShare X4
            ∗ owns (c : Thread nD τ) scH fullShare D5 ∗ owns (c : Thread nD τ) scY fullShare (putY i D6 (yBlk (act X3 X1 (getH i h3 D5) D7)))
            ∗ owns (c : Thread nD τ) scW fullShare D7 ∗ (∃ D, owns (c : Thread nD τ) scT fullShare D)) -∗ K ⟨⟩))
      ⊢ wp frame (wpE (defs₀ (F := F)) Variants.none c none) Set.univ
          (cc0__moe_kernel i arg1 harg1 arg2 harg2 arg3 harg3 arg4 harg4 scH (Memref.isWhole_whole _)
            scY (Memref.isWhole_whole _) scW (Memref.isWhole_whole _) scT (Memref.isWhole_whole _)) K := by
  simp only [cc0__moe_kernel_eq_skeleton]; unfold cc0__moe_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  sl_exec_parts
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro;
    unfold putY
    rw [View.read_writes_cons_put (v := scY.view) (h := rfl), View.writes_nil, e6]
    refine congrArg _ ((shapeCast_self _ _).trans (Eq.trans ?_ (concatenate_yPiece
      (View.read (Elt F) scT.view (scT.view.writes (Elt F) f8 (runC.sl.H8_1 c i arg1 arg3 h3 f1 f3 f5 f7))) _ ?_
      concatenates_S256x32_S256x32_S256x32_S256x32_S256x32_S256x32_S256x32_S256x32_S256x256_d1)))
    · rfl
    intro r t
    unfold runC.sl.H8_1
    refine (View.read_writes_cons_unit_of_mem scT.view f8 _ _ [] _ (ix2 r t) rfl
      (fun a => by match a with | ⟨0, _⟩ => exact (Nat.zero_add _).symm | ⟨1, _⟩ => exact (Nat.zero_add _).symm)).trans ?_
    have h5 : View.readAt (Elt F) scH.view (Rect.unit (s := S8192x32) (k0_off2 i) S2048x32.size (k0_off2_inb i h3)).toLoadRect f5 = getH i h3 D5 := by
      unfold getH; rw [View.readAt_unit (h := rfl), e5]
    have h7 : View.readAt (Elt F) scW.view (Rect.unit ![0, 0] S2048x32.size inb_S2048x32_S2048x32_0_0).toLoadRect f7 = D7 :=
      (View.readAt_full _ _ _).trans e7
    unfold k0_pay487
    rw [shapeCast_self]
    exact congrFun (act_of_list X3 _ (load_block arg3 f3 X3 e3 shapeCasts_S8x262144_S8x262144) X1 _ ((View.readAt_full _ _ _).trans e1)
      _ _ h5 _ _ h7 _ rfl _) _
  isplitl [H7]
  · iexists _; isplitr; swap; · iexact H7
    ipureintro; exact e7
  iexists _, _; isplitr; swap; · iexact H8
  ipureintro; rfl

/-- Points 8 to 11. -/
theorem runD (c : Dev nD) (i : grid0.Coords)
    (arg1 : Memref sig .tc .vmem S32x1024 .f32) (harg1 : arg1.IsWhole) (arg2 : Memref sig .tc .vmem S8x1024 .f32) (harg2 : arg2.IsWhole)
    (arg3 : Memref sig .tc .vmem S8x262144 .f32) (harg3 : arg3.IsWhole) (arg4 : Memref sig .tc .vmem S32x1024 .f32) (harg4 : arg4.IsWhole)
    (h1 : ¬ cond1 i = 1#1) (h2 : ¬ k0_cond2 i = 1#1) (h3 : ¬ k0_cond3 i = 1#1) (h4 : k0_cond4 i = 1#1)
    (X1 : FVec F S32x1024 .f32) (X2 : FVec F S8x1024 .f32) (X3 : FVec F S8x262144 .f32) (X4 : FVec F S32x1024 .f32)
    (D5 : FVec F S8192x32 .f32) (D6 : FVec F S1024x256 .f32) (D7 : FVec F S2048x32 .f32) (D8 : FVec F S2048x128 .f32)
    (K : PUnit → sProp 𝕄) :
    iprop(owns (c : Thread nD τ) arg1 fullShare X1 ∗ owns (c : Thread nD τ) arg2 fullShare X2
        ∗ owns (c : Thread nD τ) arg3 fullShare X3 ∗ owns (c : Thread nD τ) arg4 fullShare X4
        ∗ owns (c : Thread nD τ) scH fullShare D5 ∗ owns (c : Thread nD τ) scY fullShare D6
        ∗ owns (c : Thread nD τ) scW fullShare D7 ∗ owns (c : Thread nD τ) scT fullShare D8
        ∗ (iprop(owns (c : Thread nD τ) arg1 fullShare X1 ∗ owns (c : Thread nD τ) arg2 fullShare X2
            ∗ owns (c : Thread nD τ) arg3 fullShare X3 ∗ owns (c : Thread nD τ) arg4 fullShare (putO i X4 (oBlk (outMat X3 D6)))
            ∗ owns (c : Thread nD τ) scH fullShare D5 ∗ owns (c : Thread nD τ) scY fullShare D6
            ∗ owns (c : Thread nD τ) scW fullShare D7 ∗ (∃ D, owns (c : Thread nD τ) scT fullShare D)) -∗ K ⟨⟩))
      ⊢ wp frame (wpE (defs₀ (F := F)) Variants.none c none) Set.univ
          (cc0__moe_kernel i arg1 harg1 arg2 harg2 arg3 harg3 arg4 harg4 scH (Memref.isWhole_whole _)
            scY (Memref.isWhole_whole _) scW (Memref.isWhole_whole _) scT (Memref.isWhole_whole _)) K := by
  simp only [cc0__moe_kernel_eq_skeleton]; unfold cc0__moe_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  sl_exec_parts
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro;
    unfold putO
    rw [View.read_writes_cons_put (v := arg4.view) (h := rfl), View.writes_nil, e4]
    refine congrArg _ ?_
    refine Eq.trans ?_ (oBlk_of_strided (outMat X3 D6) (View.read (Elt F) scT.view (scT.view.writes (Elt F) scT.view.junk (runD.sl.H8_1 c arg3 f3 f6)))
      (View.read (Elt F) scT.view (scT.view.writes (Elt F) scT.view.junk (runD.sl.H8_2 c arg3 f3 f6))) ?_ ?_)
    · rfl
    · intro r t
      unfold runD.sl.H8_1
      rw [View.read_writes_full (v := scT.view)]
      unfold k0_pay726 k0_pay725
      rw [shapeCast_self]
      refine (congrArg (fun o => extractStridedSlice S2048x128 ![0, 0] o slices_S2048x256_o0_0_S2048x128 (ix2 r t))
        (outMat_of_list X3 _ (load_block arg3 f3 X3 e3 shapeCasts_S8x262144_S8x262144) D6 _ ((View.readAt_full _ _ _).trans e6) _ rfl _)).trans
        (slice_cols _ 0 (by omega) _ r t)
    · intro r t
      unfold runD.sl.H8_2
      rw [View.read_writes_full (v := scT.view)]
      unfold runD.sl.r_1 k0_pay5 k0_pay728 k0_pay725
      rw [shapeCast_self]
      refine (congrArg (fun o => extractStridedSlice S2048x128 ![0, 128] o slices_S2048x256_o0_128_S2048x128 (ix2 r t))
        (outMat_of_list X3 _ (load_block arg3 f3 X3 e3 shapeCasts_S8x262144_S8x262144) D6 _ ((View.readAt_full _ _ _).trans e6) _ rfl _)).trans
        (slice_cols _ 128 (by omega) _ r t)
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  iexists _, _; isplitr; swap; · iexact H8
  ipureintro; rfl

end Cert.KernelIdeal.Hand

end
-- ==== Proof.Track.lean ====
/-
  What the kernel's scratch buffers and its output hold as the grid advances, as a plain statement about arrays: the four blocks of
  the gate's product at points 0 to 3, the four blocks of regrouped activations at points 4 to 7, the four blocks of the
  output's columns at points 8 to 11. Each step is one store over a window of an array.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [∀ e, Nonempty (Elt F e)]

/-! ## The grid point's conditions and offsets -/

theorem coord_val : ∀ t : Fin grid0.N, ((grid0.coords t) 0).val = t.val := by decide +kernel
theorem cond1_iff : ∀ t : Fin grid0.N, cond1 (grid0.coords t) = 1#1 ↔ t.val = 0 := by decide +kernel
theorem cond2_iff : ∀ t : Fin grid0.N, k0_cond2 (grid0.coords t) = 1#1 ↔ t.val < 4 := by decide +kernel
theorem cond3_iff : ∀ t : Fin grid0.N, k0_cond3 (grid0.coords t) = 1#1 ↔ 4 ≤ t.val ∧ t.val < 8 := by decide +kernel
theorem cond4_iff : ∀ t : Fin grid0.N, k0_cond4 (grid0.coords t) = 1#1 ↔ 8 ≤ t.val := by decide +kernel
theorem off2_val : ∀ t : Fin grid0.N, 4 ≤ t.val → t.val < 8 → k0_off2 (grid0.coords t) = ![2048 * (t.val - 4), 0] := by decide +kernel
theorem off3_val : ∀ t : Fin grid0.N, 4 ≤ t.val → t.val < 8 → k0_off3 (grid0.coords t) = ![256 * (t.val - 4), 0] := by decide +kernel
theorem off4_val : ∀ t : Fin grid0.N, 8 ≤ t.val → k0_off4 (grid0.coords t) = ![0, 256 * (t.val - 8)] := by decide +kernel

/-! ## One store over a window -/

/-- After a store over a window an array agrees with `G` wherever the stored block does, and elsewhere where it did before. -/
theorem put_agrees {α : Type} {s : Shape} (D G : s.Idx → α) (off size : Fin s.rank → ℕ) (v : ((a : Fin s.rank) → Fin (size a)) → α) (p : s.Idx)
    (hin : ∀ h : ∀ a, off a ≤ (p a).val ∧ (p a).val < off a + size a, v (Rect.unitLocal (s := s) (off := off) (size := size) p h) = G p)
    (hout : (¬ ∀ a, off a ≤ (p a).val ∧ (p a).val < off a + size a) → D p = G p) : VecWindow.put D off size v p = G p := by
  unfold VecWindow.put
  split
  · next h => exact hin h
  · next h => exact hout h

/-! ## The arrays the grid builds up -/

section
variable (x : FVec F S32x1024 .f32) (rw : FVec F S8x1024 .f32) (W : ℕ → FVec F S8x262144 .f32)

/-- The gate's product, all four blocks. -/
def hAll : FVec F S8192x32 .f32 := fun p =>
  hid (W ((p 0).val / 2048)) x (ix2 ⟨(p 0).val % 2048, Nat.mod_lt _ (by decide)⟩ ⟨(p 1).val, (p 1).isLt⟩)

/-- The regrouped activations, all four blocks. -/
def yAll : FVec F S1024x256 .f32 := fun p =>
  yBlk (act (W (4 + (p 0).val / 256)) x (hid (W ((p 0).val / 256)) x) (fwRep x rw))
    (ix2 ⟨(p 0).val % 256, Nat.mod_lt _ (by decide)⟩ ⟨(p 1).val, (p 1).isLt⟩)

/-- The output, all four blocks of columns. -/
def oAll : FVec F S32x1024 .f32 := fun p =>
  oBlk (outMat (W (8 + (p 1).val / 256)) (yAll x rw W)) (ix2 ⟨(p 0).val, (p 0).isLt⟩ ⟨(p 1).val % 256, Nat.mod_lt _ (by decide)⟩)

/-- Before point `n`: the routing weights stored, the gate's product filled up to block `n`, the activations up to block `n - 4`. -/
structure Inv (n : ℕ) (D5 : FVec F S8192x32 .f32) (D6 : FVec F S1024x256 .f32) (D7 : FVec F S2048x32 .f32) : Prop where
  w : 1 ≤ n → D7 = fwRep x rw
  h : ∀ p, (p 0).val < 2048 * n → D5 p = hAll x W p
  y : ∀ p, (p 0).val < 256 * (n - 4) → D6 p = yAll x rw W p

/-- After point `n` the output's columns are filled up to block `n + 1 - 8`. -/
def OutOk (n : ℕ) (X : FVec F S32x1024 .f32) : Prop := ∀ p, (p 1).val < 256 * (n + 1 - 8) → X p = oAll x rw W p

variable {x rw W}

theorem Inv.zero (D5 : FVec F S8192x32 .f32) (D6 : FVec F S1024x256 .f32) (D7 : FVec F S2048x32 .f32) : Inv x rw W 0 D5 D6 D7 :=
  ⟨fun h => absurd h (by omega), fun p h => absurd h (by omega), fun p h => absurd h (by omega)⟩

/-- Points 0 to 3 fill one more block of the gate's product. -/
theorem Inv.stepH {t : Fin grid0.N} (ht : t.val < 4) {D5 : FVec F S8192x32 .f32} {D6 : FVec F S1024x256 .f32} {D7 D7' : FVec F S2048x32 .f32}
    (hI : Inv x rw W t.val D5 D6 D7) (h7 : D7' = fwRep x rw) :
    Inv x rw W (t.val + 1) (putH (grid0.coords t) D5 (hid (W t.val) x)) D6 D7' := by
  refine ⟨fun _ => h7, fun p hp => ?_, fun p hp => absurd hp (by omega)⟩
  have hc := coord_val t
  unfold putH
  rw [hc]
  refine put_agrees D5 (hAll x W) _ _ _ p (fun h => ?_) (fun hn => hI.h p ?_)
  · have h0 : 2048 * t.val ≤ (p 0).val := (h 0).1
    unfold hAll
    have e : (p 0).val / 2048 = t.val := by omega
    rw [e]
    congr 1
    funext a
    match a with
    | ⟨0, _⟩ => exact Fin.ext (by show (p 0).val - 2048 * t.val = (p 0).val % 2048; omega)
    | ⟨1, _⟩ => exact Fin.ext (by show (p 1).val - 0 = (p 1).val; omega)
  · by_contra hlt
    refine hn fun a => ?_
    match a with
    | ⟨0, _⟩ => exact ⟨by show 2048 * t.val ≤ (p 0).val; omega, by show (p 0).val < 2048 * t.val + 2048; omega⟩
    | ⟨1, _⟩ => exact ⟨Nat.zero_le _, by have := (p 1).isLt; show (p 1).val < 0 + 32; rw [Nat.zero_add]; exact this⟩

/-- Points 4 to 7 fill one more block of regrouped activations. -/
theorem Inv.stepY {t : Fin grid0.N} (h4 : 4 ≤ t.val) (h8 : t.val < 8) (h3 : k0_cond3 (grid0.coords t) = 1#1)
    {D5 : FVec F S8192x32 .f32} {D6 : FVec F S1024x256 .f32} {D7 : FVec F S2048x32 .f32} (hI : Inv x rw W t.val D5 D6 D7) :
    Inv x rw W (t.val + 1) D5 (putY (grid0.coords t) D6 (yBlk (act (W t.val) x (getH (grid0.coords t) h3 D5) D7))) D7 := by
  have hw := hI.w (by omega)
  subst hw
  have hall : ∀ p, D5 p = hAll x W p := fun p => hI.h p (by have : (p 0).val < 8192 := (p 0).isLt; omega)
  have hg : getH (grid0.coords t) h3 D5 = hid (W (t.val - 4)) x := by
    funext q
    have hq0 : (q 0).val < 2048 := (q 0).isLt
    have ho := off2_val t h4 h8
    have e0 : k0_off2 (grid0.coords t) 0 = 2048 * (t.val - 4) := congrFun ho 0
    have e1 : k0_off2 (grid0.coords t) 1 = 0 := congrFun ho 1
    unfold getH VecWindow.window
    rw [hall]
    have v0 : (((Rect.unit (s := S8192x32) (k0_off2 (grid0.coords t)) S2048x32.size (k0_off2_inb (grid0.coords t) h3)).emb q) 0).val
        = k0_off2 (grid0.coords t) 0 + 1 * (q 0).val := rfl
    have v1 : (((Rect.unit (s := S8192x32) (k0_off2 (grid0.coords t)) S2048x32.size (k0_off2_inb (grid0.coords t) h3)).emb q) 1).val
        = k0_off2 (grid0.coords t) 1 + 1 * (q 1).val := rfl
    generalize (Rect.unit (s := S8192x32) (k0_off2 (grid0.coords t)) S2048x32.size (k0_off2_inb (grid0.coords t) h3)).emb q = p at v0 v1 ⊢
    unfold hAll
    have e : (p 0).val / 2048 = t.val - 4 := by omega
    rw [e]
    congr 1
    funext a
    match a with
    | ⟨0, _⟩ => exact Fin.ext (by show (p 0).val % 2048 = (q 0).val; omega)
    | ⟨1, _⟩ => exact Fin.ext (by show (p 1).val = (q 1).val; omega)
  refine ⟨fun _ => rfl, fun p _ => hall p, fun p hp => ?_⟩
  have ho := off3_val t h4 h8
  unfold putY
  rw [hg, ho]
  refine put_agrees D6 (yAll x rw W) _ _ _ p (fun h => ?_) (fun hn => hI.y p ?_)
  · have h0 : 256 * (t.val - 4) ≤ (p 0).val := (h 0).1
    unfold yAll
    have e : (p 0).val / 256 = t.val - 4 := by omega
    have e' : 4 + (t.val - 4) = t.val := by omega
    rw [e, e']
    congr 1
    funext a
    match a with
    | ⟨0, _⟩ => exact Fin.ext (by show (p 0).val - 256 * (t.val - 4) = (p 0).val % 256; omega)
    | ⟨1, _⟩ => exact Fin.ext (by show (p 1).val - 0 = (p 1).val; omega)
  · by_contra hlt
    refine hn fun a => ?_
    match a with
    | ⟨0, _⟩ => exact ⟨by show 256 * (t.val - 4) ≤ (p 0).val; omega, by show (p 0).val < 256 * (t.val - 4) + 256; omega⟩
    | ⟨1, _⟩ => exact ⟨Nat.zero_le _, by have := (p 1).isLt; show (p 1).val < 0 + 256; rw [Nat.zero_add]; exact this⟩

/-- Points 8 to 11 leave the scratch buffers alone. -/
theorem Inv.stepO {t : Fin grid0.N} (h8 : 8 ≤ t.val) {D5 : FVec F S8192x32 .f32} {D6 : FVec F S1024x256 .f32} {D7 : FVec F S2048x32 .f32}
    (hI : Inv x rw W t.val D5 D6 D7) : Inv x rw W (t.val + 1) D5 D6 D7 :=
  ⟨fun _ => hI.w (by omega), fun p _ => hI.h p (by have : (p 0).val < 8192 := (p 0).isLt; omega),
    fun p _ => hI.y p (by have : (p 0).val < 1024 := (p 0).isLt; omega)⟩

/-- Points 8 to 11 fill one more block of the output's columns. -/
theorem OutOk.step {t : Fin grid0.N} (h8 : 8 ≤ t.val) {D5 : FVec F S8192x32 .f32} {D6 : FVec F S1024x256 .f32} {D7 : FVec F S2048x32 .f32}
    (hI : Inv x rw W t.val D5 D6 D7) {X : FVec F S32x1024 .f32} (hX : 8 < t.val → OutOk x rw W (t.val - 1) X) :
    OutOk x rw W t.val (putO (grid0.coords t) X (oBlk (outMat (W t.val) D6))) := by
  have hy : D6 = yAll x rw W := funext fun p => hI.y p (by have : (p 0).val < 1024 := (p 0).isLt; omega)
  subst hy
  intro p hp
  have ho := off4_val t h8
  unfold putO
  rw [ho]
  refine put_agrees X (oAll x rw W) _ _ _ p (fun h => ?_) (fun hn => ?_)
  · have h1 : 256 * (t.val - 8) ≤ (p 1).val := (h 1).1
    unfold oAll
    have e : (p 1).val / 256 = t.val - 8 := by omega
    have e' : 8 + (t.val - 8) = t.val := by omega
    rw [e, e']
    congr 1
    funext a
    match a with
    | ⟨0, _⟩ => exact Fin.ext (by show (p 0).val - 0 = (p 0).val; omega)
    | ⟨1, _⟩ => exact Fin.ext (by show (p 1).val - 256 * (t.val - 8) = (p 1).val % 256; omega)
  · have hlt : (p 1).val < 256 * (t.val - 8) := by
      by_contra hge
      refine hn fun a => ?_
      match a with
      | ⟨0, _⟩ => exact ⟨Nat.zero_le _, by have := (p 0).isLt; show (p 0).val < 0 + 32; rw [Nat.zero_add]; exact this⟩
      | ⟨1, _⟩ => exact ⟨by show 256 * (t.val - 8) ≤ (p 1).val; omega, by show (p 1).val < 256 * (t.val - 8) + 256; omega⟩
    exact hX (by omega) p (by omega)

/-- Up to point 7 nothing is asked of the output. -/
theorem OutOk.early {n : ℕ} (h : n < 8) (X : FVec F S32x1024 .f32) : OutOk x rw W n X := fun p hp => absurd hp (by omega)

/-- After the last point the output is the whole array. -/
theorem OutOk.last {X : FVec F S32x1024 .f32} (h : OutOk x rw W 11 X) : X = oAll x rw W :=
  funext fun p => h p (by have : (p 1).val < 1024 := (p 1).isLt; omega)

end

end Cert.KernelIdeal.Hand

end
-- ==== Proof.Run.lean ====
/-
  The kernel's whole run: the proof data of its one region (the scratch buffers tracked by `Inv`, the output window held to
  `OutOk`), the body obligation from the four runs of the body, the launch, and what the argument arrays and the output
  array hold at the end.
-/
module

public import proofs.«01_k».proof.Proof.Track
public import Idealize.ShloMosaic.Lib.Pipeline.DatRel
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat RDat BodyObligationRel)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The blocks the body reads -/

/-- The tokens, the router's weights and block `k` of the experts' weights, as the body reads them. -/
def xB (c : Dev nD) : FVec F S32x1024 .f32 := iblk m c 0 ⟨0, by decide⟩
def rwB (c : Dev nD) : FVec F S8x1024 .f32 := iblk m c 1 ⟨0, by decide⟩
def WB (c : Dev nD) (k : ℕ) : FVec F S8x262144 .f32 := iblk m c 2 ⟨k % 12, Nat.mod_lt _ (by decide)⟩

theorem iblk0_eq (c : Dev nD) (t : Fin cfg0.N) : iblk m c 0 t = xB m c := rfl
theorem iblk1_eq (c : Dev nD) (t : Fin cfg0.N) : iblk m c 1 t = rwB m c := rfl
theorem iblk2_eq (c : Dev nD) (t : Fin cfg0.N) : iblk m c 2 t = WB m c t.val := by
  unfold WB
  rw [show (⟨t.val % 12, Nat.mod_lt _ (by decide)⟩ : Fin cfg0.N) = t from Fin.ext (Nat.mod_eq_of_lt t.isLt)]

/-! ## The proof data -/

/-- Between points: the scratch buffers at contents that `Inv` allows, the fourth at anything, the generator register at some state. -/
def Φ0 (c : Dev nD) (n : ℕ) : sProp 𝕄 :=
  iprop(∃ D5 D6 D7, ⌜Inv (xB m c) (rwB m c) (WB m c) n D5 D6 D7⌝ ∗ owns (c : Thread nD τ) scH fullShare D5
    ∗ owns (c : Thread nD τ) scY fullShare D6 ∗ owns (c : Thread nD τ) scW fullShare D7
    ∗ (∃ D8, owns (c : Thread nD τ) scT fullShare D8) ∗ ∃ r, prngReg c r)

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => Pipeline.Dat.unnamed (cfg := cfg0) 3 t
  Φ t := Φ0 m c t.val
  q _ := fullShare
  owed _ := 0

theorem A_eq (c : Dev nD) (w : Fin cfg0.W) : (dats m 0 c).A w = V m c (Pipeline.arrRef spec0 w) := by dsimp only [dats]

/-- The output window is the one held to a predicate. -/
def held : Fin cfg0.W → Bool := fun w => match w with
  | 0 => false
  | 1 => false
  | 2 => false
  | 3 => true

def Rl (c : Dev nD) (w : Fin cfg0.W) (t : Fin cfg0.N) : ((cfg0.win w).block.Idx → Elt F (cfg0.win w).elt) → Prop := match w with
  | 0 => fun _ => True
  | 1 => fun _ => True
  | 2 => fun _ => True
  | 3 => fun X => OutOk (xB m c) (rwB m c) (WB m c) t.val X

abbrev rdat (c : Dev nD) : RDat τ (Elt F) Unit ℕ (UR sig nD τ) ℕ cfg0 c := (dats m 0 c).toRRel held (Rl m c)

theorem before0 (c : Dev nD) (t : Fin cfg0.N) (d) : (dats m 0 c).before 0 t d = xB m c :=
  (before0_0_of m (dats m 0 c) (A_eq m c 0) (fun _ => rfl) t d).trans (iblk0_eq m c t)
theorem before1 (c : Dev nD) (t : Fin cfg0.N) (d) : (dats m 0 c).before 1 t d = rwB m c :=
  (before0_1_of m (dats m 0 c) (A_eq m c 1) (fun _ => rfl) t d).trans (iblk1_eq m c t)
theorem before2 (c : Dev nD) (t : Fin cfg0.N) (d) : (dats m 0 c).before 2 t d = WB m c t.val :=
  (before0_2_of m (dats m 0 c) (A_eq m c 2) (fun _ => rfl) t d).trans (iblk2_eq m c t)

/-- What the output window is found at after the first point meets the predicate of the point before. -/
theorem finds3 (c : Dev nD) (t : Fin cfg0.N) (ht : 0 < t.val) (Y : FVec F S32x1024 .f32) (h : (rdat m c).Finds 3 t Y) :
    OutOk (xB m c) (rwB m c) (WB m c) (t.val - 1) Y := by
  have ht' : t.val < 12 := t.isLt
  unfold RDat.Finds at h
  rw [if_neg (by intro hf; exact absurd hf (by rw [Pipeline.Window.fetch_out _ rfl]; exact Bool.false_ne_true)), if_neg (by omega)] at h
  have hfl : ¬ (cfg0.win 3).flush ⟨t.val - 1, Nat.lt_of_le_of_lt (Nat.sub_le _ _) t.isLt⟩ = true := fun hf => by
    have h11 : (t.val - 1) % 12 = 11 := (flush0_3 _).mp hf
    omega
  dsimp only at h
  rw [if_neg hfl] at h
  obtain ⟨Y', -, h2⟩ := h
  rw [(dats m 0 c).toRRel_after_of_eq_true (w := 3) rfl] at h2
  exact h2

/-! ## The body obligation -/

def bodyPre (c : Dev nD) (t : Fin cfg0.N) : sProp 𝕄 :=
  iprop(Φ0 m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜(rdat m c).Finds 3 t Y⌝ ∗ owns (c : Thread nD τ) (st0_3 t) fullShare Y))

def bodyPost (c : Dev nD) (t : Fin cfg0.N) : sProp 𝕄 :=
  iprop(Φ0 m c (t.val + 1) ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ X, ⌜OutOk (xB m c) (rwB m c) (WB m c) t.val X⌝ ∗ owns (c : Thread nD τ) (st0_3 t) fullShare X))

/-- The end of a run of the body: what it leaves, in the form the obligation asks. -/
theorem close_body (c : Dev nD) (t : Fin cfg0.N) (X4 : FVec F S32x1024 .f32) (D5 : FVec F S8192x32 .f32) (D6 : FVec F S1024x256 .f32)
    (D7 : FVec F S2048x32 .f32) (hI : Inv (xB m c) (rwB m c) (WB m c) (t.val + 1) D5 D6 D7) (hX : OutOk (xB m c) (rwB m c) (WB m c) t.val X4) :
    iprop((∃ r, prngReg c r) ∗ (dats m 0 c).owesAt () t.castSucc
      ∗ owns (c : Thread nD τ) (st0_0 t) fullShare (xB m c) ∗ owns (c : Thread nD τ) (st0_1 t) fullShare (rwB m c)
      ∗ owns (c : Thread nD τ) (st0_2 t) fullShare (WB m c t.val) ∗ owns (c : Thread nD τ) (st0_3 t) fullShare X4
      ∗ owns (c : Thread nD τ) scH fullShare D5 ∗ owns (c : Thread nD τ) scY fullShare D6
      ∗ owns (c : Thread nD τ) scW fullShare D7 ∗ (∃ D, owns (c : Thread nD τ) scT fullShare D)) ⊢ bodyPost m c t := by
  unfold bodyPost Φ0
  rw [iblk0_eq, iblk1_eq, iblk2_eq]
  iintro ⟨Hg, HO, H1, H2, H3, H4, H5, H6, H7, H8⟩
  isplitl [Hg H5 H6 H7 H8]
  · iexists D5, D6, D7
    isplitr; · ipureintro; exact hI
    isplitl [H5]; · iexact H5
    isplitl [H6]; · iexact H6
    isplitl [H7]; · iexact H7
    isplitl [H8]; · iexact H8
    iexact Hg
  isplitl [HO]; · iexact HO
  isplitl [H1]; · iexact H1
  isplitl [H2]; · iexact H2
  isplitl [H3]; · iexact H3
  iexists X4
  isplitr; · ipureintro; exact hX
  iexact H4

theorem sound_body (c : Dev nD) (t : Fin cfg0.N) :
    bodyPre m c t ⊢ wp frame (wpE (defs₀ (F := F)) Variants.none c none) Set.univ (bodyAt0 t) (fun _ => bodyPost m c t) := by
  unfold bodyPre bodyAt0 Φ0
  simp only [before0, before1, before2]
  iintro ⟨⟨%D5, %D6, %D7, %hI, H5, H6, H7, ⟨%D8, H8⟩, Hg⟩, HO, ⟨%d0, H1⟩, ⟨%d1, H2⟩, ⟨%d2, H3⟩, ⟨%Y, %hY, H4⟩⟩
  by_cases h8 : 8 ≤ t.val
  · have hI' := hI.stepO h8
    have hX := OutOk.step h8 hI (X := Y) (fun h => finds3 m c t (by omega) Y hY)
    iapply (runD c (grid0.coords t) _ _ _ _ _ _ _ _ (mt (cond1_iff t).mp (by omega)) (mt (cond2_iff t).mp (by omega)) (mt (cond3_iff t).mp (by omega))
      ((cond4_iff t).mpr h8) (xB m c) (rwB m c) (WB m c t.val) Y D5 D6 D7 D8 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro H
    iapply (close_body m c t _ _ _ _ hI' hX)
    isplitl [Hg]; · iexact Hg
    isplitl [HO]; · iexact HO
    iexact H
  by_cases h4 : 4 ≤ t.val
  · have h3 : k0_cond3 (grid0.coords t) = 1#1 := (cond3_iff t).mpr ⟨h4, by omega⟩
    have hI' := hI.stepY h4 (by omega) h3
    iapply (runC c (grid0.coords t) _ _ _ _ _ _ _ _ (mt (cond1_iff t).mp (by omega)) (mt (cond2_iff t).mp (by omega)) h3
      (mt (cond4_iff t).mp h8) (xB m c) (rwB m c) (WB m c t.val) Y D5 D6 D7 D8 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro H
    iapply (close_body m c t _ _ _ _ hI' (OutOk.early (by omega) _))
    isplitl [Hg]; · iexact Hg
    isplitl [HO]; · iexact HO
    iexact H
  have hn3 : ¬ k0_cond3 (grid0.coords t) = 1#1 := mt (cond3_iff t).mp (by omega)
  have hn4 : ¬ k0_cond4 (grid0.coords t) = 1#1 := mt (cond4_iff t).mp h8
  have hc2 : k0_cond2 (grid0.coords t) = 1#1 := (cond2_iff t).mpr (by omega)
  by_cases h0 : t.val = 0
  · have hI' := hI.stepH (by omega) (rfl : fwRep (xB m c) (rwB m c) = _)
    iapply (runA c (grid0.coords t) _ _ _ _ _ _ _ _ ((cond1_iff t).mpr h0) hc2 hn3 hn4 (xB m c) (rwB m c) (WB m c t.val) Y D5 D6 D7 D8 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro H
    iapply (close_body m c t _ _ _ _ hI' (OutOk.early (by omega) _))
    isplitl [Hg]; · iexact Hg
    isplitl [HO]; · iexact HO
    iexact H
  · have hI' := hI.stepH (by omega) (hI.w (by omega))
    iapply (runB c (grid0.coords t) _ _ _ _ _ _ _ _ (mt (cond1_iff t).mp h0) hc2 hn3 hn4 (xB m c) (rwB m c) (WB m c t.val) Y D5 D6 D7 D8 _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro H
    iapply (close_body m c t _ _ _ _ hI' (OutOk.early (by omega) _))
    isplitl [Hg]; · iexact Hg
    isplitl [HO]; · iexact HO
    iexact H

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ held (Rl m c) := fun t => by
  rw [bigSep_W0, bigSep_W0, defs₀_row]
  exact triple_restated (sound_body m c t) rfl .rfl fun _ => .rfl

/-! ## The launch -/

theorem phi_in (c : Dev nD) : (Pipeline.ΦA spec0 c : sProp 𝕄) ⊢ Φ0 m c 0 := by
  unfold Pipeline.ΦA Φ0
  rw [scopedRest0_eq]
  simp only [scH, scY, scW, scT, owns_whole]
  iintro ⟨⟨⟨%D5, H5⟩, ⟨%D6, H6⟩, ⟨%D7, H7⟩, ⟨%D8, H8⟩⟩, Hg⟩
  iexists D5, D6, D7
  isplitr; · ipureintro; exact Inv.zero D5 D6 D7
  isplitl [H5]; · iexact H5
  isplitl [H6]; · iexact H6
  isplitl [H7]; · iexact H7
  isplitl [H8]; · iexists D8; iexact H8
  iexact Hg

theorem phi_out (c : Dev nD) (n : ℕ) : Φ0 m c n ⊢ (Pipeline.ΦA spec0 c : sProp 𝕄) := by
  unfold Pipeline.ΦA Φ0
  rw [scopedRest0_eq]
  simp only [scH, scY, scW, scT, owns_whole]
  iintro ⟨%D5, %D6, %D7, %hI, H5, H6, H7, ⟨%D8, H8⟩, Hg⟩
  isplitl [H5 H6 H7 H8]
  · isplitl [H5]; · iexists D5; iexact H5
    isplitl [H6]; · iexists D6; iexact H6
    isplitl [H7]; · iexists D7; iexact H7
    iexists D8; iexact H8
  iexact Hg

set_option backward.isDefEq.respectTransparency.types false in
/-- From any memory with zero counters every weakly fair execution terminates; at the end every array holds what the proof data allow,
    and every semaphore counter is zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m)
    (hin := fun c => phi_in m c) (hout := fun c => phi_out m c _)

variable {m ρ}

/-- The arguments end as they began. -/
theorem final_args {r : PUnit × MemSt nD τ sig (Elt F)} (h : Pipeline.RDat.FramePost (cfgs 0) (rdat m) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).2 main_arg0 (Pipeline.mem_restRefs_of main_arg0 (by decide) (by decide))).trans (V_main_arg0 m c),
    (by have h1 := (h c).1 0; rw [(rdat m c).ArrAt_in 0 rfl] at h1; exact h1.trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The output's one block is the whole array, written back at the last point. -/
theorem whole3 : (cfg0.win 3).WholeAt ⟨11, by decide⟩ :=
  ⟨(flush0_3 _).mpr rfl, fun t ht => Fin.ext (by have h1 := (flush0_3 t).mp ht; have h2 : t.val < 12 := t.isLt; show t.val = 11; omega), by decide⟩

/-- The output array ends at `oAll` of the blocks. -/
theorem final_out {r : PUnit × MemSt nD τ sig (Elt F)} (h : Pipeline.RDat.FramePost (cfgs 0) (rdat m) (V m) r) (c : Dev nD) :
    r.2.mem ((c : Thread nD τ).loc main_v2) = oAll (xB m c) (rwB m c) (WB m c) := by
  obtain ⟨X, hL, hX⟩ := ((h c).1 3).emb_eq_of_wholeAt whole3
  have hR := (dats m 0 c).toRRel_leaves (w := 3) rfl hL
  have hO : X = oAll (xB m c) (rwB m c) (WB m c) := OutOk.last hR
  subst hO
  funext j
  exact hX j

end Cert.KernelIdeal.Hand

end
-- ==== Proof.RefOps.lean ====
/- The reference as five stretches of operations. Each stretch is short enough that what it leaves in the one or three
   buffers the next stretches read is a small term; `run` strings them together. -/
module

public import proofs.«01_k».proof.Proof.Gen.ReferenceIdeal
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Two index columns side by side, a function of plain arguments. -/
def pairCols : (⟨S32x2x1, .i32⟩ : BufTy).Contents (Elt F) → (⟨S32x2x1, .i32⟩ : BufTy).Contents (Elt F) → (⟨S32x2x2, .i32⟩ : BufTy).Contents (Elt F) :=
  fun a b => concatenate S32x2x2 2 [⟨S32x2x1, a⟩, ⟨S32x2x1, b⟩] concatenates_S32x2x1_S32x2x1_S32x2x2_d2

/-- The router's scores of every expert. -/
abbrev opsLogits : List (HloOp τ sig (Elt F)) :=
  [ nullary main_c (constantI S_ 32 0#32),
    binary main_arg0 main_c main_v0 (cmpi .slt : (⟨S_, .i32⟩ : BufTy).Contents (Elt F) → (⟨S_, .i32⟩ : BufTy).Contents (Elt F) → (⟨S_, .i1⟩ : BufTy).Contents (Elt F)),
    nullary main_c_0 (constantI S_ 32 1#32),
    binary main_arg0 main_c_0 main_v1 (addi : (⟨S_, .i32⟩ : BufTy).Contents (Elt F) → (⟨S_, .i32⟩ : BufTy).Contents (Elt F) → (⟨S_, .i32⟩ : BufTy).Contents (Elt F)),
    ternary main_v0 main_v1 main_arg0 main_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v3 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 8#32),
    binary main_c_3 main_c_4 main_v4 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v3 main_v4 main_c_5 main_v5 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    nullary main_c_7 (constantI S_ 32 0#32),
    binary main_c_6 main_c_7 main_v6 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 1024#32),
    binary main_c_8 main_c_9 main_v7 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v6 main_v7 main_c_10 main_v8 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg2 ![main_v2, main_v5, main_v8] ⟨S_, .i32⟩ main_v9 ((fun x i => Host.dynamicSlice S1x8x1024 x (fun k => (i k (Shape.Idx.first h_S_)).toInt) sliceFits_S1x8x1024_S1x8x1024) : (⟨S1x8x1024, .f32⟩ : BufTy).Contents (Elt F) → (Fin 3 → (⟨S_, .i32⟩ : BufTy).Contents (Elt F)) → (⟨S1x8x1024, .f32⟩ : BufTy).Contents (Elt F)),
    reshape main_v9 main_v10 (rfl : (.f32 : EltTy) = .f32) shapeCasts_S1x8x1024_S8x1024,
    unary main_v10 main_v11 ((transpose S1024x8 [1, 0] · transposes_S8x1024_S1024x8_1_0) : (⟨S8x1024, .f32⟩ : BufTy).Contents (Elt F) → (⟨S1024x8, .f32⟩ : BufTy).Contents (Elt F)),
    binary main_arg1 main_v11 main_v12 ((fun l r => Host.dotGeneral dot_S32x1024_S1024x8_S32x8_1_0_0_1_n_n none l r) : (⟨S32x1024, .f32⟩ : BufTy).Contents (Elt F) → (⟨S1024x8, .f32⟩ : BufTy).Contents (Elt F) → (⟨S32x8, .f32⟩ : BufTy).Contents (Elt F)) ]
set_option maxRecDepth 8192 in
theorem subLogits : (opsLogits : List (HloOp τ sig (Elt F))).Forall fun op => op.bufs ⊆ tcRefs τ sig :=
  ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., binary_bufs_sub ..⟩
theorem freshLogits : ∀ op ∈ (opsLogits : List (HloOp τ sig (Elt F))), op.fresh = ∅ := by
  intro _ h; (repeat (cases h with | head => rfl | tail _ h => ?_)); exact nomatch h

/-- Their softmax along the experts. -/
abbrev opsSoftmax : List (HloOp τ sig (Elt F)) :=
  [ nullary main_cst (constant S_ .f32 0xFF800000#32),
    binary main_v12 main_cst main_v13 ((fun x v => Host.reduce FloatOps.maximumf x v reducesTo_S32x8_S32_d1 h_S_) : (⟨S32x8, .f32⟩ : BufTy).Contents (Elt F) → (⟨S_, .f32⟩ : BufTy).Contents (Elt F) → (⟨S32, .f32⟩ : BufTy).Contents (Elt F)),
    nullary main_cst_11 (constant S_ .f32 0xFF800000#32),
    unary main_cst_11 main_v14 (broadcastInDim S32 ![] bcast_S_S32 : (⟨S_, .f32⟩ : BufTy).Contents (Elt F) → (⟨S32, .f32⟩ : BufTy).Contents (Elt F)),
    binary main_v14 main_v13 main_v15 (maximumf : (⟨S32, .f32⟩ : BufTy).Contents (Elt F) → (⟨S32, .f32⟩ : BufTy).Contents (Elt F) → (⟨S32, .f32⟩ : BufTy).Contents (Elt F)),
    unary main_v15 main_v16 (broadcastInDim S32x1 ![0] bcast_S32_S32x1_0 : (⟨S32, .f32⟩ : BufTy).Contents (Elt F) → (⟨S32x1, .f32⟩ : BufTy).Contents (Elt F)),
    unary main_v16 main_v17 (broadcastInDim S32x8 ![0, 1] bcast_S32x1_S32x8_0_1 : (⟨S32x1, .f32⟩ : BufTy).Contents (Elt F) → (⟨S32x8, .f32⟩ : BufTy).Contents (Elt F)),
    binary main_v12 main_v17 main_v18 (subf : (⟨S32x8, .f32⟩ : BufTy).Contents (Elt F) → (⟨S32x8, .f32⟩ : BufTy).Contents (Elt F) → (⟨S32x8, .f32⟩ : BufTy).Contents (Elt F)),
    unary main_v18 main_v19 (Host.exp : (⟨S32x8, .f32⟩ : BufTy).Contents (Elt F) → (⟨S32x8, .f32⟩ : BufTy).Contents (Elt F)),
    nullary main_cst_12 (constant S_ .f32 0x00000000#32),
    binary main_v19 main_cst_12 main_v20 ((fun x v => Host.reduceAdd x v reducesTo_S32x8_S32_d1 h_S_) : (⟨S32x8, .f32⟩ : BufTy).Contents (Elt F) → (⟨S_, .f32⟩ : BufTy).Contents (Elt F) → (⟨S32, .f32⟩ : BufTy).Contents (Elt F)),
    unary main_v20 main_v21 (broadcastInDim S32x1 ![0] bcast_S32_S32x1_0 : (⟨S32, .f32⟩ : BufTy).Contents (Elt F) → (⟨S32x1, .f32⟩ : BufTy).Contents (Elt F)),
    unary main_v21 main_v22 (broadcastInDim S32x8 ![0, 1] bcast_S32x1_S32x8_0_1 : (⟨S32x1, .f32⟩ : BufTy).Contents (Elt F) → (⟨S32x8, .f32⟩ : BufTy).Contents (Elt F)),
    binary main_v19 main_v22 main_v23 (Host.divf : (⟨S32x8, .f32⟩ : BufTy).Contents (Elt F) → (⟨S32x8, .f32⟩ : BufTy).Contents (Elt F) → (⟨S32x8, .f32⟩ : BufTy).Contents (Elt F)) ]
set_option maxRecDepth 8192 in
theorem subSoftmax : (opsSoftmax : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem freshSoftmax : ∀ op ∈ (opsSoftmax : List (HloOp τ sig (Elt F))), op.fresh = ∅ := by
  intro _ h; (repeat (cases h with | head => rfl | tail _ h => ?_)); exact nomatch h

/-- The two largest of it, their shares, and the shares written back by expert. -/
abbrev opsGate : List (HloOp τ sig (Elt F)) :=
  [ unary main_v23 main_values ((fun x => (Host.topK S32x2 1 (FloatOps.cmpfTotal .gt) x sliceFits_S32x8_S32x2).1) : (⟨S32x8, .f32⟩ : BufTy).Contents (Elt F) → (⟨S32x2, .f32⟩ : BufTy).Contents (Elt F)),
    unary main_v23 main_indices ((fun x => (Host.topK S32x2 1 (FloatOps.cmpfTotal .gt) x sliceFits_S32x8_S32x2).2) : (⟨S32x8, .f32⟩ : BufTy).Contents (Elt F) → (⟨S32x2, .i32⟩ : BufTy).Contents (Elt F)),
    nullary main_cst_13 (constant S_ .f32 0x00000000#32),
    binary main_values main_cst_13 main_v24 ((fun x v => Host.reduceAdd x v reducesTo_S32x2_S32_d1 h_S_) : (⟨S32x2, .f32⟩ : BufTy).Contents (Elt F) → (⟨S_, .f32⟩ : BufTy).Contents (Elt F) → (⟨S32, .f32⟩ : BufTy).Contents (Elt F)),
    unary main_v24 main_v25 (broadcastInDim S32x1 ![0] bcast_S32_S32x1_0 : (⟨S32, .f32⟩ : BufTy).Contents (Elt F) → (⟨S32x1, .f32⟩ : BufTy).Contents (Elt F)),
    unary main_v25 main_v26 (broadcastInDim S32x2 ![0, 1] bcast_S32x1_S32x2_0_1 : (⟨S32x1, .f32⟩ : BufTy).Contents (Elt F) → (⟨S32x2, .f32⟩ : BufTy).Contents (Elt F)),
    binary main_values main_v26 main_v27 (Host.divf : (⟨S32x2, .f32⟩ : BufTy).Contents (Elt F) → (⟨S32x2, .f32⟩ : BufTy).Contents (Elt F) → (⟨S32x2, .f32⟩ : BufTy).Contents (Elt F)),
    nullary main_cst_14 (constant S_ .f32 0x00000000#32),
    unary main_cst_14 main_v28 (broadcastInDim S32x8 ![] bcast_S_S32x8 : (⟨S_, .f32⟩ : BufTy).Contents (Elt F) → (⟨S32x8, .f32⟩ : BufTy).Contents (Elt F)),
    nullary main_v29 (iotaInDim S32 32 0),
    unary main_v29 main_v30 (broadcastInDim S32x1 ![0] bcast_S32_S32x1_0 : (⟨S32, .i32⟩ : BufTy).Contents (Elt F) → (⟨S32x1, .i32⟩ : BufTy).Contents (Elt F)),
    nullary main_c_15 (constantI S_ 32 0#32),
    unary main_c_15 main_v31 (broadcastInDim S32x1 ![] bcast_S_S32x1 : (⟨S_, .i32⟩ : BufTy).Contents (Elt F) → (⟨S32x1, .i32⟩ : BufTy).Contents (Elt F)),
    binary main_v30 main_v31 main_v32 (cmpi .slt : (⟨S32x1, .i32⟩ : BufTy).Contents (Elt F) → (⟨S32x1, .i32⟩ : BufTy).Contents (Elt F) → (⟨S32x1, .i1⟩ : BufTy).Contents (Elt F)),
    nullary main_c_16 (constantI S_ 32 32#32),
    unary main_c_16 main_v33 (broadcastInDim S32x1 ![] bcast_S_S32x1 : (⟨S_, .i32⟩ : BufTy).Contents (Elt F) → (⟨S32x1, .i32⟩ : BufTy).Contents (Elt F)),
    binary main_v30 main_v33 main_v34 (addi : (⟨S32x1, .i32⟩ : BufTy).Contents (Elt F) → (⟨S32x1, .i32⟩ : BufTy).Contents (Elt F) → (⟨S32x1, .i32⟩ : BufTy).Contents (Elt F)),
    ternary main_v32 main_v34 main_v30 main_v35 (select : (⟨S32x1, .i1⟩ : BufTy).Contents (Elt F) → (⟨S32x1, .i32⟩ : BufTy).Contents (Elt F) → (⟨S32x1, .i32⟩ : BufTy).Contents (Elt F) → (⟨S32x1, .i32⟩ : BufTy).Contents (Elt F)),
    nullary main_c_17 (constantI S_ 32 0#32),
    unary main_c_17 main_v36 (broadcastInDim S32x2 ![] bcast_S_S32x2 : (⟨S_, .i32⟩ : BufTy).Contents (Elt F) → (⟨S32x2, .i32⟩ : BufTy).Contents (Elt F)),
    binary main_indices main_v36 main_v37 (cmpi .slt : (⟨S32x2, .i32⟩ : BufTy).Contents (Elt F) → (⟨S32x2, .i32⟩ : BufTy).Contents (Elt F) → (⟨S32x2, .i1⟩ : BufTy).Contents (Elt F)),
    nullary main_c_18 (constantI S_ 32 8#32),
    unary main_c_18 main_v38 (broadcastInDim S32x2 ![] bcast_S_S32x2 : (⟨S_, .i32⟩ : BufTy).Contents (Elt F) → (⟨S32x2, .i32⟩ : BufTy).Contents (Elt F)),
    binary main_indices main_v38 main_v39 (addi : (⟨S32x2, .i32⟩ : BufTy).Contents (Elt F) → (⟨S32x2, .i32⟩ : BufTy).Contents (Elt F) → (⟨S32x2, .i32⟩ : BufTy).Contents (Elt F)),
    ternary main_v37 main_v39 main_indices main_v40 (select : (⟨S32x2, .i1⟩ : BufTy).Contents (Elt F) → (⟨S32x2, .i32⟩ : BufTy).Contents (Elt F) → (⟨S32x2, .i32⟩ : BufTy).Contents (Elt F) → (⟨S32x2, .i32⟩ : BufTy).Contents (Elt F)),
    unary main_v35 main_v41 (broadcastInDim S32x2 ![0, 1] bcast_S32x1_S32x2_0_1 : (⟨S32x1, .i32⟩ : BufTy).Contents (Elt F) → (⟨S32x2, .i32⟩ : BufTy).Contents (Elt F)),
    unary main_v41 main_v42 (broadcastInDim S32x2x1 ![0, 1] bcast_S32x2_S32x2x1_0_1 : (⟨S32x2, .i32⟩ : BufTy).Contents (Elt F) → (⟨S32x2x1, .i32⟩ : BufTy).Contents (Elt F)),
    unary main_v40 main_v43 (broadcastInDim S32x2x1 ![0, 1] bcast_S32x2_S32x2x1_0_1 : (⟨S32x2, .i32⟩ : BufTy).Contents (Elt F) → (⟨S32x2x1, .i32⟩ : BufTy).Contents (Elt F)),
    binary main_v42 main_v43 main_v44 (pairCols (F := F)),
    ternary main_v28 main_v44 main_v27 main_v45 ((fun x i u => Host.scatterAdd scatter_S32x8_S32x2x2_S32x2_n_01_01_2 x i u) : (⟨S32x8, .f32⟩ : BufTy).Contents (Elt F) → (⟨S32x2x2, .i32⟩ : BufTy).Contents (Elt F) → (⟨S32x2, .f32⟩ : BufTy).Contents (Elt F) → (⟨S32x8, .f32⟩ : BufTy).Contents (Elt F)),
    nullary main_c_19 (constantI S_ 32 0#32) ]
set_option maxRecDepth 8192 in
theorem subGate : (opsGate : List (HloOp τ sig (Elt F))).Forall fun op => op.bufs ⊆ tcRefs τ sig :=
  ⟨unary_bufs_sub .., unary_bufs_sub .., nullary_bufs_sub .., binary_bufs_sub .., unary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., nullary_bufs_sub ..⟩
theorem freshGate : ∀ op ∈ (opsGate : List (HloOp τ sig (Elt F))), op.fresh = ∅ := by
  intro _ h; (repeat (cases h with | head => rfl | tail _ h => ?_)); exact nomatch h

/-- The three weight arrays cut out of the stacked one. -/
abbrev opsWeights : List (HloOp τ sig (Elt F)) :=
  [ binary main_arg0 main_c_19 main_v46 (cmpi .slt : (⟨S_, .i32⟩ : BufTy).Contents (Elt F) → (⟨S_, .i32⟩ : BufTy).Contents (Elt F) → (⟨S_, .i1⟩ : BufTy).Contents (Elt F)),
    nullary main_c_20 (constantI S_ 32 1#32),
    binary main_arg0 main_c_20 main_v47 (addi : (⟨S_, .i32⟩ : BufTy).Contents (Elt F) → (⟨S_, .i32⟩ : BufTy).Contents (Elt F) → (⟨S_, .i32⟩ : BufTy).Contents (Elt F)),
    ternary main_v46 main_v47 main_arg0 main_v48 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_21 (constantI S_ 32 0#32),
    nullary main_c_22 (constantI S_ 32 0#32),
    binary main_c_21 main_c_22 main_v49 (cmpi .slt : (⟨S_, .i32⟩ : BufTy).Contents (Elt F) → (⟨S_, .i32⟩ : BufTy).Contents (Elt F) → (⟨S_, .i1⟩ : BufTy).Contents (Elt F)),
    nullary main_c_23 (constantI S_ 32 0#32),
    nullary main_c_24 (constantI S_ 32 8#32),
    binary main_c_23 main_c_24 main_v50 (addi : (⟨S_, .i32⟩ : BufTy).Contents (Elt F) → (⟨S_, .i32⟩ : BufTy).Contents (Elt F) → (⟨S_, .i32⟩ : BufTy).Contents (Elt F)),
    nullary main_c_25 (constantI S_ 32 0#32),
    ternary main_v49 main_v50 main_c_25 main_v51 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_26 (constantI S_ 32 0#32),
    nullary main_c_27 (constantI S_ 32 0#32),
    binary main_c_26 main_c_27 main_v52 (cmpi .slt : (⟨S_, .i32⟩ : BufTy).Contents (Elt F) → (⟨S_, .i32⟩ : BufTy).Contents (Elt F) → (⟨S_, .i1⟩ : BufTy).Contents (Elt F)),
    nullary main_c_28 (constantI S_ 32 0#32),
    nullary main_c_29 (constantI S_ 32 3145728#32),
    binary main_c_28 main_c_29 main_v53 (addi : (⟨S_, .i32⟩ : BufTy).Contents (Elt F) → (⟨S_, .i32⟩ : BufTy).Contents (Elt F) → (⟨S_, .i32⟩ : BufTy).Contents (Elt F)),
    nullary main_c_30 (constantI S_ 32 0#32),
    ternary main_v52 main_v53 main_c_30 main_v54 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg3 ![main_v48, main_v51, main_v54] ⟨S_, .i32⟩ main_v55 ((fun x i => Host.dynamicSlice S1x8x3145728 x (fun k => (i k (Shape.Idx.first h_S_)).toInt) sliceFits_S1x8x3145728_S1x8x3145728) : (⟨S1x8x3145728, .f32⟩ : BufTy).Contents (Elt F) → (Fin 3 → (⟨S_, .i32⟩ : BufTy).Contents (Elt F)) → (⟨S1x8x3145728, .f32⟩ : BufTy).Contents (Elt F)),
    reshape main_v55 main_v56 (rfl : (.f32 : EltTy) = .f32) shapeCasts_S1x8x3145728_S8x3145728,
    unary main_v56 main_v57 ((extractStridedSlice S8x1048576 ![0, 0] · slices_S8x3145728_S8x1048576_0_0) : (⟨S8x3145728, .f32⟩ : BufTy).Contents (Elt F) → (⟨S8x1048576, .f32⟩ : BufTy).Contents (Elt F)),
    reshape main_v57 main_v58 (rfl : (.f32 : EltTy) = .f32) shapeCasts_S8x1048576_S8x1024x1024,
    unary main_v56 main_v59 ((extractStridedSlice S8x1048576 ![0, 1048576] · slices_S8x3145728_S8x1048576_0_1048576) : (⟨S8x3145728, .f32⟩ : BufTy).Contents (Elt F) → (⟨S8x1048576, .f32⟩ : BufTy).Contents (Elt F)),
    reshape main_v59 main_v60 (rfl : (.f32 : EltTy) = .f32) shapeCasts_S8x1048576_S8x1024x1024,
    unary main_v56 main_v61 ((extractStridedSlice S8x1048576 ![0, 2097152] · slices_S8x3145728_S8x1048576_0_2097152) : (⟨S8x3145728, .f32⟩ : BufTy).Contents (Elt F) → (⟨S8x1048576, .f32⟩ : BufTy).Contents (Elt F)),
    reshape main_v61 main_v62 (rfl : (.f32 : EltTy) = .f32) shapeCasts_S8x1048576_S8x1024x1024 ]
set_option maxRecDepth 8192 in
theorem subWeights : (opsWeights : List (HloOp τ sig (Elt F))).Forall fun op => op.bufs ⊆ tcRefs τ sig :=
  ⟨binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., reshape_bufs_sub .., unary_bufs_sub .., reshape_bufs_sub .., unary_bufs_sub .., reshape_bufs_sub ..⟩
theorem freshWeights : ∀ op ∈ (opsWeights : List (HloOp τ sig (Elt F))), op.fresh = ∅ := by
  intro _ h; (repeat (cases h with | head => rfl | tail _ h => ?_)); exact nomatch h

/-- The expert network and the weighted sum. -/
abbrev opsExperts : List (HloOp τ sig (Elt F)) :=
  [ binary main_arg1 main_v58 main_v63 ((fun l r => Host.dotGeneral dot_S32x1024_S8x1024x1024_S32x8x1024_1_2_0_01_n_n none l r) : (⟨S32x1024, .f32⟩ : BufTy).Contents (Elt F) → (⟨S8x1024x1024, .f32⟩ : BufTy).Contents (Elt F) → (⟨S32x8x1024, .f32⟩ : BufTy).Contents (Elt F)),
    binary main_arg1 main_v60 main_v64 ((fun l r => Host.dotGeneral dot_S32x1024_S8x1024x1024_S32x8x1024_1_2_0_01_n_n none l r) : (⟨S32x1024, .f32⟩ : BufTy).Contents (Elt F) → (⟨S8x1024x1024, .f32⟩ : BufTy).Contents (Elt F) → (⟨S32x8x1024, .f32⟩ : BufTy).Contents (Elt F)),
    TRef.unary (TRef.of (T := ⟨S32x8x1024, .f32⟩) main_v63) (TRef.of (T := ⟨S32x8x1024, .f32⟩) main_call0_v0) Host.negf,
    TRef.unary (TRef.of (T := ⟨S32x8x1024, .f32⟩) main_call0_v0) (TRef.of (T := ⟨S32x8x1024, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S32x8x1024, .f32⟩) main_call0_v2) (broadcastInDim S32x8x1024 ![] bcast_S_S32x8x1024),
    TRef.binary (TRef.of (T := ⟨S32x8x1024, .f32⟩) main_call0_v2) (TRef.of (T := ⟨S32x8x1024, .f32⟩) main_call0_v1) (TRef.of (T := ⟨S32x8x1024, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S32x8x1024, .f32⟩) main_call0_v4) (broadcastInDim S32x8x1024 ![] bcast_S_S32x8x1024),
    TRef.binary (TRef.of (T := ⟨S32x8x1024, .f32⟩) main_call0_v4) (TRef.of (T := ⟨S32x8x1024, .f32⟩) main_call0_v3) (TRef.of (T := ⟨S32x8x1024, .f32⟩) main_call0_v5) Host.divf,
    TRef.binary (TRef.of (T := ⟨S32x8x1024, .f32⟩) main_v63) (TRef.of (T := ⟨S32x8x1024, .f32⟩) main_call0_v5) (TRef.of (T := ⟨S32x8x1024, .f32⟩) main_v65) mulf,
    binary main_v65 main_v64 main_v66 (mulf : (⟨S32x8x1024, .f32⟩ : BufTy).Contents (Elt F) → (⟨S32x8x1024, .f32⟩ : BufTy).Contents (Elt F) → (⟨S32x8x1024, .f32⟩ : BufTy).Contents (Elt F)),
    binary main_v62 main_v66 main_v67 ((fun l r => Host.dotGeneral dot_S8x1024x1024_S32x8x1024_S8x1024x32_2_2_1_0_0_1 none l r) : (⟨S8x1024x1024, .f32⟩ : BufTy).Contents (Elt F) → (⟨S32x8x1024, .f32⟩ : BufTy).Contents (Elt F) → (⟨S8x1024x32, .f32⟩ : BufTy).Contents (Elt F)),
    unary main_v67 main_v68 ((transpose S32x8x1024 [2, 0, 1] · transposes_S8x1024x32_S32x8x1024_2_0_1) : (⟨S8x1024x32, .f32⟩ : BufTy).Contents (Elt F) → (⟨S32x8x1024, .f32⟩ : BufTy).Contents (Elt F)),
    binary main_v45 main_v68 main_v69 ((fun l r => Host.dotGeneral dot_S32x8_S32x8x1024_S32x1024_1_1_n_2_0_0 none l r) : (⟨S32x8, .f32⟩ : BufTy).Contents (Elt F) → (⟨S32x8x1024, .f32⟩ : BufTy).Contents (Elt F) → (⟨S32x1024, .f32⟩ : BufTy).Contents (Elt F)) ]
set_option maxRecDepth 8192 in
theorem subExperts : (opsExperts : List (HloOp τ sig (Elt F))).Forall fun op => op.bufs ⊆ tcRefs τ sig :=
  ⟨binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., binary_bufs_sub ..⟩
theorem freshExperts : ∀ op ∈ (opsExperts : List (HloOp τ sig (Elt F))), op.fresh = ∅ := by
  intro _ h; (repeat (cases h with | head => rfl | tail _ h => ?_)); exact nomatch h

/-- All of them, in order. -/
abbrev ops : List (HloOp τ sig (Elt F)) := opsLogits ++ (opsSoftmax ++ (opsGate ++ (opsWeights ++ opsExperts)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨subLogits, List.forall_append.2 ⟨subSoftmax, List.forall_append.2 ⟨subGate,
    List.forall_append.2 ⟨subWeights, subExperts⟩⟩⟩⟩

theorem ops_fresh : ∀ op ∈ (ops : List (HloOp τ sig (Elt F))), op.fresh = ∅ :=
  List.forall_mem_append.2 ⟨freshLogits, List.forall_mem_append.2 ⟨freshSoftmax, List.forall_mem_append.2 ⟨freshGate,
    List.forall_mem_append.2 ⟨freshWeights, freshExperts⟩⟩⟩⟩

/-- The run, its final contents the stretches' one after another. -/
theorem run_ops (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefRun.lean ====
/- What the reference leaves in its result, stretch by stretch, and its run. Each stretch is read from any contents; the
   names below (`logits`, `softmax`, `topVals`, …) are the stretches' results as functions of what they read. -/
module

public import proofs.«01_k».proof.Proof.RefOps
public import Idealize.ShloMosaic.Lib.StableHlo.RunHlo
public import Idealize.ShloMosaic.Lib.StableHlo.RunClose
public import Idealize.ShloMosaic.Lib.StableHlo.RunRead
public import Idealize.ShloMosaic.Lib.DynamicIndex
public import Idealize.ShloMosaic.Lib.Claim

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stretches' results -/

/-- The router's scores: every token against every expert. -/
def logits (x : FVec F S32x1024 .f32) (rw : FVec F S1x8x1024 .f32) : FVec F S32x8 .f32 :=
  Host.dotGeneral dot_S32x1024_S1024x8_S32x8_1_0_0_1_n_n none x
    (transpose S1024x8 [1, 0] (shapeCast S8x1024 rw shapeCasts_S1x8x1024_S8x1024) transposes_S8x1024_S1024x8_1_0)

/-- The exponentials of the scores less their row's largest. -/
def expScores (l : FVec F S32x8 .f32) : FVec F S32x8 .f32 :=
  Host.exp (subf l (broadcastInDim S32x8 ![0, 1] bcast_S32x1_S32x8_0_1 (broadcastInDim S32x1 ![0] bcast_S32_S32x1_0
    (maximumf (broadcastInDim S32 ![] bcast_S_S32 (constant S_ .f32 0xFF800000#32))
      (Host.reduce FloatOps.maximumf l (constant S_ .f32 0xFF800000#32) reducesTo_S32x8_S32_d1 h_S_)))))

/-- The softmax of the scores along the experts. -/
def softmax (l : FVec F S32x8 .f32) : FVec F S32x8 .f32 :=
  Host.divf (expScores l) (broadcastInDim S32x8 ![0, 1] bcast_S32x1_S32x8_0_1 (broadcastInDim S32x1 ![0] bcast_S32_S32x1_0
    (Host.reduceAdd (expScores l) (constant S_ .f32 0x00000000#32) reducesTo_S32x8_S32_d1 h_S_)))

/-- The two largest of each row. -/
def topVals (s : FVec F S32x8 .f32) : FVec F S32x2 .f32 :=
  (Host.topK S32x2 1 (FloatOps.cmpfTotal .gt) s sliceFits_S32x8_S32x2).1
/-- Where they stand. -/
def topIdx (s : FVec F S32x8 .f32) : IVec S32x2 32 :=
  (Host.topK S32x2 1 (FloatOps.cmpfTotal .gt) s sliceFits_S32x8_S32x2).2

/-- The two largest over their sum. -/
def shares (v : FVec F S32x2 .f32) : FVec F S32x2 .f32 :=
  Host.divf v (broadcastInDim S32x2 ![0, 1] bcast_S32x1_S32x2_0_1 (broadcastInDim S32x1 ![0] bcast_S32_S32x1_0
    (Host.reduceAdd v (constant S_ .f32 0x00000000#32) reducesTo_S32x2_S32_d1 h_S_)))

/-- The row number of each share, as a column of indices. -/
def rowCol : IVec S32x2x1 32 :=
  broadcastInDim S32x2x1 ![0, 1] bcast_S32x2_S32x2x1_0_1 (broadcastInDim S32x2 ![0, 1] bcast_S32x1_S32x2_0_1
    (select (cmpi .slt (broadcastInDim S32x1 ![0] bcast_S32_S32x1_0 (iotaInDim S32 32 0)) (broadcastInDim S32x1 ![] bcast_S_S32x1 (constantI S_ 32 0#32)))
      (addi (broadcastInDim S32x1 ![0] bcast_S32_S32x1_0 (iotaInDim S32 32 0)) (broadcastInDim S32x1 ![] bcast_S_S32x1 (constantI S_ 32 32#32)))
      (broadcastInDim S32x1 ![0] bcast_S32_S32x1_0 (iotaInDim S32 32 0))))
/-- The expert of each share, as a column of indices. -/
def expCol (i : IVec S32x2 32) : IVec S32x2x1 32 :=
  broadcastInDim S32x2x1 ![0, 1] bcast_S32x2_S32x2x1_0_1
    (select (cmpi .slt i (broadcastInDim S32x2 ![] bcast_S_S32x2 (constantI S_ 32 0#32)))
      (addi i (broadcastInDim S32x2 ![] bcast_S_S32x2 (constantI S_ 32 8#32))) i)

/-- The gate: every expert's share of a token, zero outside the two chosen. -/
def gate (s : FVec F S32x8 .f32) : FVec F S32x8 .f32 :=
  Host.scatterAdd scatter_S32x8_S32x2x2_S32x2_n_01_01_2 (broadcastInDim S32x8 ![] bcast_S_S32x8 (constant S_ .f32 0x00000000#32))
    (pairCols (F := F) rowCol (expCol (topIdx s))) (shares (topVals s))

/-- One of the three arrays that the stacked weights hold one after another. -/
def third (ws : FVec F S1x8x3145728 .f32) (off : Fin 2 → ℕ) (h : S8x3145728.Slices off S8x1048576) : FVec F S8x1024x1024 .f32 :=
  shapeCast S8x1024x1024 (extractStridedSlice S8x1048576 off (shapeCast S8x3145728 ws shapeCasts_S1x8x3145728_S8x3145728) h) shapeCasts_S8x1048576_S8x1024x1024

/-- A token through one weight array of every expert. -/
def project (x : FVec F S32x1024 .f32) (w : FVec F S8x1024x1024 .f32) : FVec F S32x8x1024 .f32 :=
  Host.dotGeneral dot_S32x1024_S8x1024x1024_S32x8x1024_1_2_0_01_n_n none x w

/-- `h / (1 + exp (-h))`. -/
def silu (h : FVec F S32x8x1024 .f32) : FVec F S32x8x1024 .f32 :=
  mulf h (Host.divf (broadcastInDim S32x8x1024 ![] bcast_S_S32x8x1024 (constant S_ .f32 0x3F800000#32))
    (addf (broadcastInDim S32x8x1024 ![] bcast_S_S32x8x1024 (constant S_ .f32 0x3F800000#32)) (Host.exp (Host.negf h))))

/-- Every expert's network, weighted by the gate and summed. -/
def combine (x : FVec F S32x1024 .f32) (g : FVec F S32x8 .f32) (w v u : FVec F S8x1024x1024 .f32) : FVec F S32x1024 .f32 :=
  Host.dotGeneral dot_S32x8_S32x8x1024_S32x1024_1_1_n_2_0_0 none g
    (transpose S32x8x1024 [2, 0, 1] (Host.dotGeneral dot_S8x1024x1024_S32x8x1024_S8x1024x32_2_2_1_0_0_1 none u
      (mulf (silu (project x w)) (project x v))) transposes_S8x1024x32_S32x8x1024_2_0_1)

/-- The reference's result. -/
def result (x : FVec F S32x1024 .f32) (rw : FVec F S1x8x1024 .f32) (ws : FVec F S1x8x3145728 .f32) : FVec F S32x1024 .f32 :=
  combine x (gate (softmax (logits x rw))) (third ws ![0, 0] slices_S8x3145728_S8x1048576_0_0)
    (third ws ![0, 1048576] slices_S8x3145728_S8x1048576_0_1048576) (third ws ![0, 2097152] slices_S8x3145728_S8x1048576_0_2097152)

/-! ## The stretches, from any contents -/

/-- A cut as large as the array it cuts has nowhere to move: it is the array, whatever the offsets. -/
theorem dynamicSlice_whole {α : Type} {s : Shape} (x : s.Idx → α) (start : Fin s.rank → Int) (h : s.Slices (fun _ => 0) s) :
    Host.dynamicSlice s x start h = x := by
  rw [Host.dynamicSlice_eq_extractStridedSlice_of_clamp s x start h (fun _ => 0) (fun a => by
    show (min (max (start a) 0) ((s.size a - s.size a : ℕ) : Int)).toNat = 0
    omega) h]
  funext j
  unfold extractStridedSlice
  refine congrArg x (funext fun a => Fin.ext ?_)
  simp

variable (V : Valuation τ sig (Elt F))

theorem logits_of : after opsLogits V (Proc.devRef .tc main_v12) = logits (V (Proc.devRef .tc main_arg1)) (V (Proc.devRef .tc main_arg2)) := by
  after_results_simp
  rw [dynamicSlice_whole]
  rfl

theorem softmax_of : after opsSoftmax V (Proc.devRef .tc main_v23) = softmax (V (Proc.devRef .tc main_v12)) := by
  after_results_simp
  rfl

theorem gate_of : after opsGate V (Proc.devRef .tc main_v45) = gate (V (Proc.devRef .tc main_v23)) := by
  after_results_simp
  rfl

theorem third1_of : after opsWeights V (Proc.devRef .tc main_v58) = third (V (Proc.devRef .tc main_arg3)) ![0, 0] slices_S8x3145728_S8x1048576_0_0 := by
  after_results_simp
  rw [dynamicSlice_whole]
  rfl

theorem third2_of : after opsWeights V (Proc.devRef .tc main_v60) = third (V (Proc.devRef .tc main_arg3)) ![0, 1048576] slices_S8x3145728_S8x1048576_0_1048576 := by
  after_results_simp
  rw [dynamicSlice_whole]
  rfl

theorem third3_of : after opsWeights V (Proc.devRef .tc main_v62) = third (V (Proc.devRef .tc main_arg3)) ![0, 2097152] slices_S8x3145728_S8x1048576_0_2097152 := by
  after_results_simp
  rw [dynamicSlice_whole]
  rfl

theorem combine_of : after opsExperts V (Proc.devRef .tc main_v69)
    = combine (V (Proc.devRef .tc main_arg1)) (V (Proc.devRef .tc main_v45)) (V (Proc.devRef .tc main_v58)) (V (Proc.devRef .tc main_v60)) (V (Proc.devRef .tc main_v62)) := by
  simp only [opsExperts, TRef.binary, TRef.nullary, TRef.unary, TRef.toBuf, TRef.ofBuf, cast_eq]
  after_results_simp
  rfl

/-! ## What the stretches leave alone -/

/-- The line's contents, one stretch after another. -/
theorem after_ops : after ops V = after opsExperts (after opsWeights (after opsGate (after opsSoftmax (after opsLogits V)))) := by
  unfold ops
  rw [after_append, after_append, after_append, after_append]

/-- What the stretch writes, in order. -/
abbrev writesLogits : List (Ref sig .tc) :=
  [main_c, main_v0, main_c_0, main_v1, main_v2, main_c_1, main_c_2, main_v3, main_c_3, main_c_4, main_v4, main_c_5, main_v5, main_c_6, main_c_7, main_v6, main_c_8, main_c_9, main_v7, main_c_10, main_v8, main_v9, main_v10, main_v11, main_v12]
theorem keepLogits (r : Ref sig .tc) (hr : r ∉ writesLogits) : after opsLogits V (Proc.devRef .tc r) = V (Proc.devRef .tc r) :=
  after_unwritten writesLogits rfl hr V

/-- What the stretch writes, in order. -/
abbrev writesSoftmax : List (Ref sig .tc) :=
  [main_cst, main_v13, main_cst_11, main_v14, main_v15, main_v16, main_v17, main_v18, main_v19, main_cst_12, main_v20, main_v21, main_v22, main_v23]
theorem keepSoftmax (r : Ref sig .tc) (hr : r ∉ writesSoftmax) : after opsSoftmax V (Proc.devRef .tc r) = V (Proc.devRef .tc r) :=
  after_unwritten writesSoftmax rfl hr V

/-- What the stretch writes, in order. -/
abbrev writesGate : List (Ref sig .tc) :=
  [main_values, main_indices, main_cst_13, main_v24, main_v25, main_v26, main_v27, main_cst_14, main_v28, main_v29, main_v30, main_c_15, main_v31, main_v32, main_c_16, main_v33, main_v34, main_v35, main_c_17, main_v36, main_v37, main_c_18, main_v38, main_v39, main_v40, main_v41, main_v42, main_v43, main_v44, main_v45, main_c_19]
theorem keepGate (r : Ref sig .tc) (hr : r ∉ writesGate) : after opsGate V (Proc.devRef .tc r) = V (Proc.devRef .tc r) :=
  after_unwritten writesGate rfl hr V

/-- What the stretch writes, in order. -/
abbrev writesWeights : List (Ref sig .tc) :=
  [main_v46, main_c_20, main_v47, main_v48, main_c_21, main_c_22, main_v49, main_c_23, main_c_24, main_v50, main_c_25, main_v51, main_c_26, main_c_27, main_v52, main_c_28, main_c_29, main_v53, main_c_30, main_v54, main_v55, main_v56, main_v57, main_v58, main_v59, main_v60, main_v61, main_v62]
theorem keepWeights (r : Ref sig .tc) (hr : r ∉ writesWeights) : after opsWeights V (Proc.devRef .tc r) = V (Proc.devRef .tc r) :=
  after_unwritten writesWeights rfl hr V

/-- What the stretch writes, in order. -/
abbrev writesExperts : List (Ref sig .tc) :=
  [main_v63, main_v64, main_call0_v0, main_call0_v1, main_call0_cst, main_call0_v2, main_call0_v3, main_call0_cst_0, main_call0_v4, main_call0_v5, main_v65, main_v66, main_v67, main_v68, main_v69]
theorem keepExperts (r : Ref sig .tc) (hr : r ∉ writesExperts) : after opsExperts V (Proc.devRef .tc r) = V (Proc.devRef .tc r) :=
  after_unwritten writesExperts rfl hr V

/-- The line's result. -/
theorem result_of : after ops V (Proc.devRef .tc main_v69)
    = result (V (Proc.devRef .tc main_arg1)) (V (Proc.devRef .tc main_arg2)) (V (Proc.devRef .tc main_arg3)) := by
  rw [after_ops, combine_of, third1_of, third2_of, third3_of,
    keepWeights _ main_v45 (by decide), gate_of, softmax_of, logits_of,
    keepWeights _ main_arg1 (by decide), keepGate _ main_arg1 (by decide), keepSoftmax _ main_arg1 (by decide), keepLogits _ main_arg1 (by decide),
    keepGate _ main_arg3 (by decide), keepSoftmax _ main_arg3 (by decide), keepLogits _ main_arg3 (by decide)]
  rfl

/-- No stretch writes an argument. -/
theorem keep_of (r : Ref sig .tc) (h₁ : r ∉ writesLogits) (h₂ : r ∉ writesSoftmax) (h₃ : r ∉ writesGate) (h₄ : r ∉ writesWeights)
    (h₅ : r ∉ writesExperts) : after ops V (Proc.devRef .tc r) = V (Proc.devRef .tc r) := by
  rw [after_ops, keepExperts _ r h₅, keepWeights _ r h₄, keepGate _ r h₃, keepSoftmax _ r h₂, keepLogits _ r h₁]

/-- The reference's run: its result is `result` of its arguments, which it leaves. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = result (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v69).trans (result_of _),
      (h c main_arg0).trans (keep_of _ _ (by decide) (by decide) (by decide) (by decide) (by decide)),
      (h c main_arg1).trans (keep_of _ _ (by decide) (by decide) (by decide) (by decide) (by decide)),
      (h c main_arg2).trans (keep_of _ _ (by decide) (by decide) (by decide) (by decide) (by decide)),
      (h c main_arg3).trans (keep_of _ _ (by decide) (by decide) (by decide) (by decide) (by decide))⟩)
    (run_ops m ρ)

end Cert.ReferenceIdeal.Hand

end
-- ==== Proof.Frames.lean ====
/- The four claims that say nothing of values: each program runs to its end with its arguments unchanged and every
   counter at zero, and the idealization rewrites no operation. -/
module

public import proofs.«01_k».proof.Defs
public import proofs.«01_k».proof.Proof.KernelFrame
public import proofs.«01_k».proof.Proof.Run
public import proofs.«01_k».proof.Proof.RefRun
public import Idealize.ShloMosaic.Lib.Claim

@[expose] public section

noncomputable section

namespace Cert.Proof

open Idealize.ShloMosaic Idealize.SL.Sem

/-- The kernel on words: its run reads its arguments and leaves them. -/
theorem frame_p : Cert.quiescent_Kernel := fun m ρ _ => Cert.Kernel.Hand.frame m ρ

/-- The kernel on extended reals, from the run that also knows the result. -/
theorem frame_pi : Cert.quiescent_KernelIdeal := fun m ρ _ =>
  (θ_run Cert.KernelIdeal.defs _ _).mono (fun _ h => ⟨fun c => Cert.KernelIdeal.Hand.final_args h.1 c, h.2⟩)
    (Cert.KernelIdeal.Hand.run_main (F := Ideal) m ρ)

/-- The reference declares no semaphore and writes none of its arguments. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Hand.run (F := Ideal) m ρ)

/-- No operation was rewritten, so nothing is asked. -/
theorem preserves : Cert.preserves_Kernel_KernelIdeal := trivial

end Cert.Proof

end
-- ==== Proof.Mix.lean ====
/- One token through one expert, as plain extended reals, and the sum over the experts weighted in two ways: inside the inner
   sum, as the kernel has it, and outside, as the reference has it. An expert's weights are one row of 3145728 numbers: three
   arrays of 1024 by 1024, one after another. -/
module

public import Idealize.ShloMosaic.PureOps.Ideal
public import Idealize.ShloMosaic.PureOps.Ideal.Laws

@[expose] public section

noncomputable section

namespace Cert.Row

open Idealize.ShloMosaic

/-- Block `k` of twelve ends inside the row. -/
theorem slot_lt {k : ℕ} (hk : k < 12) (j : Fin 262144) : k * 262144 + j.val < 3145728 := by omega

/-- Row `i`, column `h` of the expert's array `k`. -/
def cell (w : Fin 3145728 → EReal) (k : Fin 3) (i h : Fin 1024) : EReal := w ⟨k.val * 1048576 + (i.val * 1024 + h.val), by omega⟩

/-- The token through the expert's array `k`. -/
def hidden (w : Fin 3145728 → EReal) (x : Fin 1024 → EReal) (k : Fin 3) (i : Fin 1024) : EReal := ∑ h, cell w k i h * x h

/-- The activations: the first product through the gate function, times the second. -/
def swish (w : Fin 3145728 → EReal) (x : Fin 1024 → EReal) (i : Fin 1024) : EReal :=
  hidden w x 0 i * Ideal.logistic (hidden w x 0 i) * hidden w x 1 i

/-- A real factor that is not negative goes in and out of a finite sum. -/
theorem mul_sum_real {ι : Type} (S : Finset ι) (f : ι → EReal) (r : ℝ) (hr : 0 ≤ r) : (r : EReal) * ∑ i ∈ S, f i = ∑ i ∈ S, (r : EReal) * f i := by
  classical
  induction S using Finset.induction_on with
  | empty => simp
  | insert a S ha ih =>
    rw [Finset.sum_insert ha, Finset.sum_insert ha, ← ih]
    exact EReal.left_distrib_of_nonneg_of_ne_top (EReal.coe_nonneg.2 hr) (EReal.coe_ne_top r) _ _

/-- The weights of the experts inside the inner sums, or outside. -/
theorem weigh (w : Fin 8 → Fin 3145728 → EReal) (x : Fin 1024 → EReal) (s : Fin 8 → EReal) (hs : ∀ e, ∃ r : ℝ, 0 ≤ r ∧ s e = r) (c : Fin 1024) :
    ∑ e, ∑ i, cell (w e) 2 c i * (swish (w e) x i * s e) = ∑ e, s e * ∑ i, cell (w e) 2 c i * swish (w e) x i := by
  refine Finset.sum_congr rfl fun e _ => ?_
  obtain ⟨r, hr, he⟩ := hs e
  rw [he, mul_sum_real _ _ r hr]
  refine Finset.sum_congr rfl fun i _ => ?_
  rw [← mul_assoc, mul_comm]

end Cert.Row
end
-- ==== Proof.Blocks.lean ====
/- What the kernel's body reads, in terms of the argument arrays: the tokens and the router's weights whole, and of every
   expert's row of weights the point's 262144 numbers. -/
module

public import proofs.«01_k».proof.Proof.Run
public import proofs.«01_k».proof.Proof.Mix
public import Idealize.ShloMosaic.Lib.Pipeline.ValueKit.Point
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe

variable (m : (ℓ : Loc nD τ sig) → Buf (Elt Ideal) ℓ) (c : Dev nD)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, t.val] := (by decide +kernel : ∀ t : Fin grid0.N, _)

theorem xB_eq (i : S32x1024.Idx) : xB m c i = m ((c : Thread nD τ).loc main_arg1) i := by
  unfold xB
  blk_ext! [iblk, V_main_arg1, index0]
  · exact Nat.add_eq_right.2 (Nat.mul_eq_zero.2 (Or.inl (congrFun (index0 ⟨0, by decide⟩) 0)))
  · exact Nat.add_eq_right.2 (Nat.mul_eq_zero.2 (Or.inl (congrFun (index0 ⟨0, by decide⟩) 1)))

theorem rwB_apply (e : Fin 8) (k : Fin 1024) : rwB m c (ix2 e k) = m ((c : Thread nD τ).loc main_arg2) (ix3 0 e k) := by
  unfold rwB
  blk_ext! [iblk, V, index1]
  · exact Nat.add_eq_right.2 (Nat.mul_eq_zero.2 (Or.inl (congrFun (index1 ⟨0, by decide⟩) 0)))
  · exact Nat.add_eq_right.2 (Nat.mul_eq_zero.2 (Or.inl (congrFun (index1 ⟨0, by decide⟩) 1)))

theorem WB_apply (k : ℕ) (hk : k < 12) (e : Fin 8) (j : Fin 262144) :
    WB m c k (ix2 e j) = m ((c : Thread nD τ).loc main_arg3) (ix3 0 e ⟨k * 262144 + j.val, Cert.Row.slot_lt hk j⟩) := by
  unfold WB
  have e12 : k % 12 = k := Nat.mod_eq_of_lt hk
  blk_ext! [iblk, V, index2, e12]

end Cert.KernelIdeal.Hand
end
-- ==== Proof.Pick.lean ====
/- One row of the router, as plain extended reals: eight scores, their softmax, the two largest and each expert's share.
   `Top f a b` says that a scan which takes the largest, and among equals the first, finds `a` and then `b`. From it
   follow the kernel's two maxima and two positions, and the shares. A row whose scores hold `⊤`, or `⊥` throughout, has the
   softmax `⊥` in every place, and then every share is zero. -/
module

public import Idealize.ShloMosaic.PureOps.Ideal
public import Idealize.ShloMosaic.PureOps.Ideal.Laws
public import Idealize.ShloMosaic.PureOps.Reduce
public import Idealize.ShloMosaic.Lib.IdealHost

@[expose] public section

noncomputable section

namespace Cert.Row

open Idealize.ShloMosaic

/-! ## The two largest -/

/-- The largest is at `a`, first among its equals, and the largest of the others at `b`, first among its equals. -/
structure Top (f : Fin 8 → EReal) (a b : Fin 8) : Prop where
  ne : b ≠ a
  le : ∀ p, f p ≤ f a
  lt : ∀ p, p < a → f p < f a
  le' : ∀ p, p ≠ a → f p ≤ f b
  lt' : ∀ p, p ≠ a → p < b → f p < f b

/-- In a nonempty set of positions one holds the largest and stands first among its equals. -/
theorem exists_first (f : Fin 8 → EReal) (P : Finset (Fin 8)) (hP : P.Nonempty) :
    ∃ a ∈ P, (∀ p ∈ P, f p ≤ f a) ∧ ∀ p ∈ P, p < a → f p < f a := by
  obtain ⟨q, hq, hmax⟩ := P.exists_max_image f hP
  have hne : (P.filter fun p => f p = f q).Nonempty := ⟨q, Finset.mem_filter.2 ⟨hq, rfl⟩⟩
  obtain ⟨ha, hfa⟩ := Finset.mem_filter.1 (Finset.min'_mem _ hne)
  refine ⟨_, ha, fun p hp => hfa.symm ▸ hmax p hp, fun p hp hlt => ?_⟩
  rw [hfa]
  refine lt_of_le_of_ne (hmax p hp) fun he => ?_
  exact absurd (Finset.min'_le _ p (Finset.mem_filter.2 ⟨hp, he⟩)) (not_le.2 hlt)

theorem exists_top (f : Fin 8 → EReal) : ∃ a b, Top f a b := by
  obtain ⟨a, -, hle, hlt⟩ := exists_first f Finset.univ ⟨0, Finset.mem_univ _⟩
  obtain ⟨b, hb, hle', hlt'⟩ := exists_first f (Finset.univ.erase a) (by
    rw [← Finset.card_pos, Finset.card_erase_of_mem (Finset.mem_univ _)]; decide)
  exact ⟨a, b, (Finset.mem_erase.1 hb).1, fun p => hle p (Finset.mem_univ _), fun p => hlt p (Finset.mem_univ _),
    fun p hp => hle' p (Finset.mem_erase.2 ⟨hp, Finset.mem_univ _⟩), fun p hp => hlt' p (Finset.mem_erase.2 ⟨hp, Finset.mem_univ _⟩)⟩

/-! ## The largest and its position, as folds -/

/-- The largest of a row. -/
def rowMax (f : Fin 8 → EReal) : EReal := Finset.univ.fold max ⊥ f

theorem rowMax_eq {f : Fin 8 → EReal} {a : Fin 8} (h : ∀ p, f p ≤ f a) : rowMax f = f a :=
  le_antisymm (Finset.fold_max_le _ |>.2 ⟨bot_le, fun p _ => h p⟩) (Finset.le_fold_max _ |>.2 (.inr ⟨a, Finset.mem_univ _, le_rfl⟩))

/-- The least position of a largest one, as a 32-bit word (8 stands for "not a largest"). -/
def firstAt (f : Fin 8 → EReal) : BitVec 32 :=
  Finset.univ.fold IntOp.minsi 2147483647#32 fun k : Fin 8 => if f k = rowMax f then BitVec.ofNat 32 k.val else 8#32

theorem toInt_minsi (x y : BitVec 32) : (IntOp.minsi x y).toInt = min x.toInt y.toInt := by
  unfold IntOp.minsi
  by_cases h : x.slt y = true
  · rw [if_pos h]
    have := BitVec.slt_iff_toInt_lt.1 h
    omega
  · rw [if_neg h]
    have := mt BitVec.slt_iff_toInt_lt.2 h
    omega

theorem toInt_small (k : Fin 8) : (BitVec.ofNat 32 k.val).toInt = k.val := by revert k; decide

theorem firstAt_eq {f : Fin 8 → EReal} {a : Fin 8} (h : ∀ p, f p ≤ f a) (hlt : ∀ p, p < a → f p < f a) :
    firstAt f = BitVec.ofNat 32 a.val := by
  have hm := rowMax_eq h
  apply BitVec.eq_of_toInt_eq
  unfold firstAt
  rw [← Finset.fold_hom (op' := min) (m := BitVec.toInt) toInt_minsi, hm, toInt_small]
  refine le_antisymm (Finset.fold_min_le _ |>.2 (.inr ⟨a, Finset.mem_univ _, ?_⟩)) (Finset.le_fold_min _ |>.2 ⟨?_, fun p _ => ?_⟩)
  · rw [if_pos rfl, toInt_small]
  · have := a.isLt
    show (a.val : Int) ≤ 2147483647
    omega
  · by_cases hp : f p = f a
    · rw [if_pos hp, toInt_small]
      have : ¬ p < a := fun hl => absurd hp (hlt p hl).ne
      have := Fin.le_iff_val_le_val.1 (not_lt.1 this)
      omega
    · rw [if_neg hp]
      have := a.isLt
      show (a.val : Int) ≤ 8
      omega

theorem ofNat_inj {p q : Fin 8} : BitVec.ofNat 32 p.val = BitVec.ofNat 32 q.val ↔ p = q := by revert p q; decide

/-- The row with its chosen position put below every score. -/
def rest (f : Fin 8 → EReal) : Fin 8 → EReal := fun k => if BitVec.ofNat 32 k.val = firstAt f then (-1 : ℝ) else f k

/-! ## The shares -/

/-- Each expert's share, from the positions. -/
def share (f : Fin 8 → EReal) (a b e : Fin 8) : EReal :=
  (if a = e then Ideal.div (f a) (f a + f b) else 0) + (if b = e then Ideal.div (f b) (f a + f b) else 0)

/-- Each expert's share, as the kernel computes it. -/
def kernelShare (f : Fin 8 → EReal) (e : Fin 8) : EReal :=
  Ideal.div ((if BitVec.ofNat 32 e.val = firstAt f then rowMax f else 0)
    + (if BitVec.ofNat 32 e.val = firstAt (rest f) then rowMax (rest f) else 0)) (rowMax f + rowMax (rest f))

/-- A row that a softmax leaves: all `⊥`, or numbers of which none is negative and one is positive. -/
inductive Soft (f : Fin 8 → EReal) : Prop
  | junk (h : ∀ p, f p = ⊥)
  | real (σ : Fin 8 → ℝ) (h : ∀ p, f p = (σ p : EReal)) (h0 : ∀ p, 0 ≤ σ p) (q : Fin 8) (hq : 0 < σ q)

theorem div_bot (x : EReal) : Ideal.div x ⊥ = 0 := by
  unfold Ideal.div
  rw [if_neg (by decide), EReal.inv_bot, mul_zero]

theorem kernelShare_eq {f : Fin 8 → EReal} (hs : Soft f) {a b : Fin 8} (h : Top f a b) (e : Fin 8) :
    kernelShare f e = share f a b e := by
  cases hs with
  | junk hf =>
    have h1 : rowMax f = ⊥ := (rowMax_eq h.le).trans (hf a)
    unfold kernelShare share
    rw [h1, hf a, hf b, EReal.bot_add, EReal.bot_add, div_bot, div_bot, ite_self, ite_self, add_zero]
  | real σ hf h0 q hq =>
    have hm := rowMax_eq h.le
    have hi := firstAt_eq h.le h.lt
    have hra : rest f a = ((-1 : ℝ) : EReal) := by unfold rest; rw [if_pos hi.symm]
    have hrn : ∀ p, p ≠ a → rest f p = f p := fun p hp => by
      unfold rest; rw [hi, if_neg fun e => hp (ofNat_inj.1 e)]
    have hneg : ∀ p, ((-1 : ℝ) : EReal) < f p := fun p => by
      rw [hf p]; exact EReal.coe_lt_coe_iff.2 (by have := h0 p; linarith)
    have hrb := hrn b h.ne
    have hle : ∀ p, rest f p ≤ rest f b := fun p => by
      rw [hrb]
      by_cases hp : p = a
      · rw [hp, hra]; exact (hneg b).le
      · rw [hrn p hp]; exact h.le' p hp
    have hlt : ∀ p, p < b → rest f p < rest f b := fun p hpb => by
      rw [hrb]
      by_cases hp : p = a
      · rw [hp, hra]; exact hneg b
      · rw [hrn p hp]; exact h.lt' p hp hpb
    have hm' := rowMax_eq hle
    have hi' := firstAt_eq hle hlt
    have hpos : 0 < σ a + σ b := by
      have h1 : σ q ≤ σ a := by have := h.le q; rw [hf, hf] at this; exact EReal.coe_le_coe_iff.1 this
      have := h0 b
      linarith
    unfold kernelShare share
    rw [hm, hm', hi, hi', hrb, hf a, hf b, ← EReal.coe_add, Ideal.div_coe hpos.ne', Ideal.div_coe hpos.ne', Ideal.div_coe hpos.ne']
    simp only [ofNat_inj]
    by_cases ha : e = a
    · subst ha
      rw [if_pos rfl, if_pos rfl, if_neg (Ne.symm h.ne), if_neg h.ne, add_zero, add_zero]
    · rw [if_neg ha, if_neg (Ne.symm ha), zero_add, zero_add]
      by_cases hb : e = b
      · rw [if_pos hb, if_pos hb.symm]
      · rw [if_neg hb, if_neg (Ne.symm hb), zero_mul]

/-- A share is a number, and not negative. -/
theorem share_real {f : Fin 8 → EReal} (hs : Soft f) {a b : Fin 8} (h : Top f a b) (e : Fin 8) :
    ∃ r : ℝ, 0 ≤ r ∧ share f a b e = (r : EReal) := by
  cases hs with
  | junk hf =>
    refine ⟨0, le_rfl, ?_⟩
    unfold share
    rw [hf a, hf b, EReal.bot_add, div_bot, ite_self, ite_self, add_zero, EReal.coe_zero]
  | real σ hf h0 q hq =>
    have hpos : 0 < σ a + σ b := by
      have h1 : σ q ≤ σ a := by have := h.le q; rw [hf, hf] at this; exact EReal.coe_le_coe_iff.1 this
      have := h0 b
      linarith
    unfold share
    rw [hf a, hf b, ← EReal.coe_add, Ideal.div_coe hpos.ne', Ideal.div_coe hpos.ne', ← EReal.coe_mul, ← EReal.coe_mul]
    have ht : ∀ (P : Prop) [Decidable P] (c : ℝ), 0 ≤ c → ∃ r : ℝ, 0 ≤ r ∧ (if P then (c : EReal) else 0) = (r : EReal) := fun P _ c hc => by
      by_cases hP : P
      · exact ⟨c, hc, if_pos hP⟩
      · exact ⟨0, le_rfl, by rw [if_neg hP, EReal.coe_zero]⟩
    have hd : ∀ p, 0 ≤ σ p * (1 / (σ a + σ b)) := fun p => mul_nonneg (h0 p) (one_div_nonneg.2 hpos.le)
    obtain ⟨r, hr, er⟩ := ht (a = e) _ (hd a)
    obtain ⟨r', hr', er'⟩ := ht (b = e) _ (hd b)
    exact ⟨r + r', add_nonneg hr hr', by rw [er, er', EReal.coe_add]⟩

/-! ## The softmax -/

/-- The softmax of a row of scores. -/
def soft (l : Fin 8 → EReal) (p : Fin 8) : EReal :=
  Ideal.div (Ideal.exp (l p - rowMax l)) (∑ q, Ideal.exp (l q - rowMax l))

theorem coe_sum (g : Fin 8 → ℝ) : ∑ q, ((g q : ℝ) : EReal) = ((∑ q, g q : ℝ) : EReal) := by
  simp only [Fin.sum_univ_eight, EReal.coe_add]

/-- The exponential of a score less a number that it does not exceed is a number, and not negative. -/
theorem exp_le_real (x : EReal) (r : ℝ) (h : x ≤ (r : EReal)) : ∃ g : ℝ, 0 ≤ g ∧ Ideal.exp (x - (r : EReal)) = (g : EReal) := by
  induction x with
  | bot => exact ⟨0, le_rfl, rfl⟩
  | top => exact absurd (top_le_iff.1 h) (EReal.coe_ne_top r)
  | coe x => exact ⟨Real.exp (x - r), (Real.exp_pos _).le, by rw [← EReal.coe_sub, Ideal.exp_coe]⟩

theorem soft_soft (l : Fin 8 → EReal) : Soft (soft l) := by
  obtain ⟨a, -, hle, -⟩ := exists_first l Finset.univ ⟨0, Finset.mem_univ _⟩
  have hle := fun p => hle p (Finset.mem_univ _)
  have hm := rowMax_eq hle
  -- the exponentials are all zero, or all numbers and one of them 1
  have key : (∀ p, Ideal.exp (l p - l a) = 0) ∨ ∃ g : Fin 8 → ℝ, (∀ p, Ideal.exp (l p - l a) = (g p : EReal)) ∧ (∀ p, 0 ≤ g p) ∧ g a = 1 := by
    induction hla : l a with
    | bot =>
      refine .inl fun p => ?_
      have : l p = ⊥ := le_bot_iff.1 (hla ▸ hle p)
      rw [this]; rfl
    | top =>
      refine .inl fun p => ?_
      have : l p - ⊤ = ⊥ := by rw [sub_eq_add_neg, EReal.neg_top, EReal.add_bot]
      rw [this]; rfl
    | coe r =>
      choose g h0 hg using fun p => exp_le_real (l p) r (hla ▸ hle p)
      refine .inr ⟨g, hg, h0, ?_⟩
      have := hg a
      rw [hla, ← EReal.coe_sub, Ideal.exp_coe, sub_self, Real.exp_zero] at this
      exact (EReal.coe_eq_coe_iff.1 this).symm
  rcases key with hz | ⟨g, hg, h0, ha⟩
  · refine .junk fun p => ?_
    unfold soft
    rw [hm, Finset.sum_eq_zero fun q _ => hz q, hz p]
    unfold Ideal.div
    rw [if_pos rfl, if_neg (lt_irrefl _)]
  · have hpos : 0 < ∑ q, g q := Finset.sum_pos' (fun q _ => h0 q) ⟨a, Finset.mem_univ _, by rw [ha]; exact one_pos⟩
    refine .real (fun p => g p * (1 / ∑ q, g q)) (fun p => ?_) (fun p => mul_nonneg (h0 p) (one_div_nonneg.2 hpos.le)) a ?_
    · unfold soft
      rw [hm, Finset.sum_congr rfl fun q _ => hg q, hg p, coe_sum, Ideal.div_coe hpos.ne', ← EReal.coe_mul]
    · show 0 < g a * (1 / ∑ q, g q)
      rw [ha, one_mul]; exact one_div_pos.2 hpos

end Cert.Row

end
-- ==== Proof.KernelGate.lean ====
/- The kernel's router, read at an index: row `8 r + e` of the block that it keeps holds, for every token, expert `e`'s
   share. -/
module

public import proofs.«01_k».proof.Proof.Pick
public import proofs.«01_k».proof.Proof.Body
public import Idealize.ShloMosaic.Lib.Pointwise
public import Idealize.ShloMosaic.Lib.Pipeline.Value

@[expose] public section

set_option maxRecDepth 16384

noncomputable section

namespace Cert.KernelIdeal.Hand

open Cert.KernelIdeal Cert.KernelIdeal.Gen
open Idealize.ShloMosaic

/-- The router's scores of one token. -/
def scoreRow (x : FVec Ideal S32x1024 .f32) (rw : FVec Ideal S8x1024 .f32) (t : Fin 32) (e : Fin 8) : EReal :=
  ∑ k : Fin 1024, x (ix2 t k) * rw (ix2 e k)

theorem ofBits_neg_inf : Ideal.ofBits .f32 0xFF800000#32 = ⊥ := by simp [Ideal.ofBits, Ideal.ieee]
theorem ofBits_zero_word : Ideal.ofBits .f32 (0 : BitVec 32) = 0 := Ideal.ofBits_zero_f32

/-- A choice on "two words are equal". -/
theorem select_eq {α : Type} (u v : BitVec 32) (p q : α) : Scalar.select (IntOp.cmpi .eq u v) p q = if u = v then p else q := by
  show (if BitVec.ofBool (u == v) = 1 then p else q) = _
  by_cases h : u = v
  · rw [if_pos h, beq_iff_eq.2 h]; rfl
  · rw [if_neg h, beq_eq_false_iff_ne.2 h]; rfl

theorem ofBits_neg_one : Ideal.ofBits .f32 0xBF800000#32 = ((-1 : ℝ) : EReal) := by
  simp [Ideal.ofBits, Ideal.ieee, -EReal.coe_mul]; norm_num

variable (x : FVec Ideal S32x1024 .f32) (rw : FVec Ideal S8x1024 .f32)

theorem pay7_apply (t : Fin 32) (e : Fin 8) : k0_pay7 (F := Ideal) x rw (ix2 t e) = Row.soft (scoreRow x rw t) e := by
  pointwise [k0_pay7, ofBits_neg_inf]
  rfl

theorem pay8_apply (t : Fin 32) (u : Fin 1) : k0_pay8 (F := Ideal) x rw (ix2 t u) = Row.rowMax (Row.soft (scoreRow x rw t)) := by
  pointwise [k0_pay8, ofBits_neg_inf, pay7_apply]
  rfl

theorem pay9_apply (t : Fin 32) (u : Fin 1) : k0_pay9 (F := Ideal) x rw (ix2 t u) = Row.firstAt (Row.soft (scoreRow x rw t)) := by
  pointwise [k0_pay9, pay7_apply, pay8_apply]
  unfold Row.firstAt
  rfl

theorem pay10_apply (t : Fin 32) (e : Fin 8) : k0_pay10 (F := Ideal) x rw (ix2 t e) = Row.rest (Row.soft (scoreRow x rw t)) e := by
  pointwise [k0_pay10, pay7_apply, pay9_apply, ofBits_neg_one]
  exact select_eq _ _ _ _

theorem pay11_apply (t : Fin 32) (u : Fin 1) : k0_pay11 (F := Ideal) x rw (ix2 t u) = Row.rowMax (Row.rest (Row.soft (scoreRow x rw t))) := by
  pointwise [k0_pay11, ofBits_neg_inf, pay10_apply]
  rfl

/-- Expert `e`'s share of token `t`, before it is copied. -/
theorem pay_share (t : Fin 32) (e : Fin 8) :
    divf (addf (k0_pay12 (F := Ideal) x rw) (select (k0_pay13 (F := Ideal) x rw) (k0_pay14 (F := Ideal) x rw) (broadcast S32x8 (Scalar.ofBits .f32 0))))
      (broadcastTo S32x8 (addf (k0_pay8 (F := Ideal) x rw) (k0_pay11 (F := Ideal) x rw)) broadcasts_S32x1_S32x8) (ix2 t e)
      = Row.kernelShare (Row.soft (scoreRow x rw t)) e := by
  pointwise [k0_pay12, k0_pay13, k0_pay14, pay8_apply, pay9_apply, pay10_apply, pay11_apply, ofBits_zero_word]
  rw [select_eq, select_eq]
  unfold Row.kernelShare Row.firstAt
  rfl

/-- 256 copies of a block of eight rows, one below the other. -/
theorem copies_apply {α : Type} (v : S8x32.Idx → α) (l : List ((s : Shape) × (s.Idx → α)))
    (hl : l = List.replicate 256 (⟨S8x32, v⟩ : (s : Shape) × (s.Idx → α))) (h : Shape.Concatenates (l.map (·.1)) S2048x32 0)
    (p : Fin 2048) (t : Fin 32) :
    shapeCast S2048x32 (concatenate S2048x32 0 l h) shapeCasts_S2048x32_S2048x32 (ix2 p t)
      = v (ix2 ⟨p.val % 8, Nat.mod_lt _ (by decide)⟩ t) := by
  subst hl
  rw [shapeCast_self]
  exact concatenate_replicate_apply (s₁ := S8x32) 0 256 v h rfl (ix2 p t) (ix2 ⟨p.val % 8, Nat.mod_lt _ (by decide)⟩ t) rfl
    (fun a ha => by match a with | ⟨0, _⟩ => exact absurd rfl ha | ⟨1, _⟩ => rfl)

/-- The block of shares that the kernel keeps. -/
theorem fwRep_apply (p : Fin 2048) (t : Fin 32) :
    fwRep (F := Ideal) x rw (ix2 p t) = Row.kernelShare (Row.soft (scoreRow x rw t)) ⟨p.val % 8, Nat.mod_lt _ (by decide)⟩ := by
  unfold fwRep k0_pay1
  refine (copies_apply _ _ rfl _ p t).trans ?_
  refine Eq.trans ?_ (pay_share x rw t _)
  pointwise
  rw [ofBits_zero_word]

end Cert.KernelIdeal.Hand
end
-- ==== Proof.KernelSum.lean ====
/- The kernel's output entry by entry, as sums of products: over the experts and, for each, over the inner width. -/
module

public import proofs.«01_k».proof.Proof.KernelGate
public import proofs.«01_k».proof.Proof.Track
public import proofs.«01_k».proof.Proof.Mix

@[expose] public section

set_option maxRecDepth 16384

noncomputable section

namespace Cert.KernelIdeal.Hand

open Cert Cert.KernelIdeal Cert.KernelIdeal.Gen Idealize.ShloMosaic

theorem wStack_apply (b : FVec Ideal S8x262144 .f32) (p : Fin 2048) (h : Fin 1024) :
    wStack b (ix2 p h) = b (ix2 ⟨p.val % 8, Nat.mod_lt _ (by decide)⟩ ⟨p.val / 8 * 1024 + h.val, by omega⟩) := by
  rfl

theorem hid_apply (b : FVec Ideal S8x262144 .f32) (x : FVec Ideal S32x1024 .f32) (p : Fin 2048) (t : Fin 32) :
    hid b x (ix2 p t) = ∑ h : Fin 1024, b (ix2 ⟨p.val % 8, Nat.mod_lt _ (by decide)⟩ ⟨p.val / 8 * 1024 + h.val, by omega⟩) * x (ix2 t h) := by
  pointwise [hid]
  rfl

theorem act_apply (b : FVec Ideal S8x262144 .f32) (x : FVec Ideal S32x1024 .f32) (g w : FVec Ideal S2048x32 .f32) (p : Fin 2048) (t : Fin 32) :
    act b x g w (ix2 p t) = g (ix2 p t) * Ideal.logistic (g (ix2 p t)) * hid b x (ix2 p t) * w (ix2 p t) := by
  pointwise [act]

theorem yBlk_apply (a : FVec Ideal S2048x32 .f32) (r : Fin 256) (e : Fin 8) (t : Fin 32) :
    yBlk a (ix2 r ⟨e.val * 32 + t.val, by omega⟩) = a (ix2 ⟨r.val * 8 + e.val, by omega⟩ t) := by
  have e1 : (e.val * 32 + t.val) / 32 = e.val := by omega
  have e2 : (e.val * 32 + t.val) % 32 = t.val := by omega
  exact congrArg a (congr (congrArg ix2 (Fin.ext (congrArg (r.val * 8 + ·) e1))) (Fin.ext e2))

theorem outMat_apply (b : FVec Ideal S8x262144 .f32) (y : FVec Ideal S1024x256 .f32) (q : Fin 2048) (c : Fin 256) :
    outMat b y (ix2 q c) = ∑ i : Fin 1024, b (ix2 ⟨q.val % 8, Nat.mod_lt _ (by decide)⟩ ⟨q.val / 8 * 1024 + i.val, by omega⟩) * y (ix2 i c) := by
  pointwise [outMat]
  rfl

theorem oBlk_apply (o : FVec Ideal S2048x256 .f32) (t : Fin 32) (q : Fin 256) :
    oBlk o (ix2 t q) = ∑ e : Fin 8, o (ix2 ⟨q.val * 8 + e.val, by omega⟩ ⟨e.val * 32 + t.val, by omega⟩) := by
  rw [Fin.sum_univ_eight]
  pointwise [oBlk, oPiece]
  rfl

variable (x : FVec Ideal S32x1024 .f32) (rw : FVec Ideal S8x1024 .f32) (W : ℕ → FVec Ideal S8x262144 .f32)
  (w : Fin 8 → Fin 3145728 → EReal)
  (hW : ∀ (k : ℕ) (hk : k < 12) (e : Fin 8) (j : Fin 262144), W k (ix2 e j) = w e ⟨k * 262144 + j.val, Row.slot_lt hk j⟩)
include hW

/-- Blocks `4k` to `4k + 3` hold every expert's array `k`. -/
theorem block_cell (k : Fin 3) (i h : Fin 1024) (e : Fin 8) (n : ℕ) (hn : n = 4 * k.val + i.val / 256) (j : Fin 262144)
    (hj : j.val = i.val % 256 * 1024 + h.val) : W n (ix2 e j) = Row.cell (w e) k i h := by
  rw [hW n (by omega) e j]
  exact congrArg (w e) (Fin.ext (by show n * 262144 + j.val = k.val * 1048576 + (i.val * 1024 + h.val); omega))

theorem hid_cell (k : Fin 3) (i : Fin 1024) (e : Fin 8) (n : ℕ) (hn : n = 4 * k.val + i.val / 256) (p : Fin 2048)
    (hp : p.val = i.val % 256 * 8 + e.val) (t : Fin 32) : hid (W n) x (ix2 p t) = Row.hidden (w e) (fun h => x (ix2 t h)) k i := by
  rw [hid_apply]
  refine Finset.sum_congr rfl fun h _ => congrArg (· * x (ix2 t h)) ?_
  have he : (⟨p.val % 8, Nat.mod_lt _ (by decide)⟩ : Fin 8) = e := Fin.ext (by show p.val % 8 = e.val; omega)
  rw [he]
  exact block_cell W w hW k i h e n hn _ (by show p.val / 8 * 1024 + h.val = _; omega)

theorem yAll_apply (i : Fin 1024) (e : Fin 8) (t : Fin 32) :
    yAll x rw W (ix2 i ⟨e.val * 32 + t.val, by omega⟩)
      = Row.swish (w e) (fun h => x (ix2 t h)) i * Row.kernelShare (Row.soft (scoreRow x rw t)) e := by
  refine (yBlk_apply _ ⟨i.val % 256, Nat.mod_lt _ (by decide)⟩ e t).trans ?_
  rw [act_apply, hid_cell x W w hW 0 i e _ (by show i.val / 256 = _; omega) _ rfl t,
    hid_cell x W w hW 1 i e _ (by show 4 + i.val / 256 = _; omega) _ rfl t, fwRep_apply]
  refine congrArg (fun e' => _ * Row.kernelShare (Row.soft (scoreRow x rw t)) e') (Fin.ext ?_)
  show (i.val % 256 * 8 + e.val) % 8 = e.val
  omega

/-- The kernel's output at an entry. -/
theorem oAll_apply (t : Fin 32) (c : Fin 1024) :
    oAll x rw W (ix2 t c) = ∑ e, ∑ i, Row.cell (w e) 2 c i
      * (Row.swish (w e) (fun h => x (ix2 t h)) i * Row.kernelShare (Row.soft (scoreRow x rw t)) e) := by
  refine (oBlk_apply _ t ⟨c.val % 256, Nat.mod_lt _ (by decide)⟩).trans ?_
  refine Finset.sum_congr rfl fun e _ => ?_
  rw [outMat_apply]
  refine Finset.sum_congr rfl fun i _ => ?_
  rw [yAll_apply x rw W w hW]
  refine congrArg (· * _) ?_
  have he : (⟨(c.val % 256 * 8 + e.val) % 8, Nat.mod_lt _ (by decide)⟩ : Fin 8) = e :=
    Fin.ext (by show (c.val % 256 * 8 + e.val) % 8 = e.val; omega)
  refine (congrArg (fun e' : Fin 8 => W (8 + c.val / 256) (ix2 e' _)) he).trans ?_
  exact block_cell W w hW 2 c i e _ (by show 8 + c.val / 256 = _; omega) _ (by show (c.val % 256 * 8 + e.val) / 8 * 1024 + i.val = _; omega)

end Cert.KernelIdeal.Hand
end
-- ==== Proof.Sorted.lean ====
/- The reference's choice of the two largest of eight: a stable sort by "greater", read at its first two places. -/
module

public import proofs.«01_k».proof.Proof.Pick
public import Idealize.ShloMosaic.Lib.SortFacts
public import Idealize.ShloMosaic.Lib.SortPrefix
public import Idealize.ShloMosaic.PureOps.ShapeOps

@[expose] public section

noncomputable section

namespace Cert.Row

open Idealize.ShloMosaic

/-- On a list in rising order a stable sort never asks whether an element is before an equal one that precedes it. -/
theorem stableSort_rising {n : ℕ} (R B : Fin n → Fin n → Bool) (h : ∀ p q, p < q → R q p = B q p) (l : List (Fin n))
    (hl : l.Pairwise (· < ·)) : stableSort R l = stableSort B l := by
  induction l with
  | nil => rfl
  | cons a l ih =>
    rw [List.pairwise_cons] at hl
    unfold stableSort
    rw [ih hl.2]
    exact insertBefore_congr R B a _ fun q hq => h a q (hl.1 q ((perm_stableSort B l).mem_iff.mp hq))

theorem sortedFrom_rising {n : ℕ} (R B : Fin n → Fin n → Bool) (h : ∀ p q, p < q → R q p = B q p) :
    sortedFrom R = sortedFrom B := by
  have e : sortPositions n R = sortPositions n B := stableSort_rising R B h _ (List.pairwise_lt_finRange n)
  funext k
  unfold sortedFrom
  rw [List.get_of_eq e]
  rfl

variable {f : Fin 8 → EReal} {a b : Fin 8}

/-- The sort's first two places come from the two positions of `Top`. -/
theorem sortedFrom_top (h : Top f a b) (i : Fin 2) :
    sortedFrom (fun k k' => FloatOps.cmpfTotal (F := Ideal) (φ := .f32) .gt (f k) (f k') == 1#1) (i.castLE (by decide)) = ![a, b] i := by
  have hB : StrictTotalBefore fun k k' : Fin 8 => decide (f k' < f k) || (decide (f k = f k') && decide (k < k')) :=
    StrictTotalBefore.of_key_then_position (fun u v : EReal => decide (v < u)) f (by simp)
      (fun u v w h₁ h₂ => by
        simp only [decide_eq_true_eq] at h₁ h₂ ⊢
        exact h₂.trans h₁)
      (fun u v => by
        simp only [decide_eq_true_eq]
        rcases lt_trichotomy v u with h | h | h
        · exact Or.inl h
        · exact Or.inr (Or.inl h.symm)
        · exact Or.inr (Or.inr h))
  rw [sortedFrom_rising _ _ (fun p q hpq => by
    show (BitVec.ofBool (decide (f p < f q)) == 1#1) = (decide (f p < f q) || (decide (f q = f p) && decide (q < p)))
    rw [decide_eq_false (not_lt.2 hpq.le), Bool.and_false, Bool.or_false]
    cases decide (f p < f q) <;> rfl)]
  refine hB.sortedFrom_eq_of_prefix (by decide) ![a, b] ?_ ?_ ?_ i
  · intro i j hij
    match i, j with
    | 0, 0 => rfl
    | 1, 1 => rfl
    | 0, 1 => exact absurd hij.symm h.ne
    | 1, 0 => exact absurd hij h.ne
  · intro i j hij
    match i, j with
    | 0, 0 => exact absurd hij (lt_irrefl _)
    | 1, 1 => exact absurd hij (lt_irrefl _)
    | 1, 0 => exact absurd hij (by decide)
    | 0, 1 =>
      show (decide (f a < f b) || (decide (f b = f a) && decide (b < a))) = false
      rw [decide_eq_false (not_lt.2 (h.le b)), Bool.false_or, Bool.and_eq_false_iff, decide_eq_false_iff_not, decide_eq_false_iff_not]
      by_cases hba : b < a
      · exact Or.inl (h.lt b hba).ne
      · exact Or.inr hba
  · intro i p hp
    have hpa : p ≠ a := fun e => hp 0 e.symm
    have hpb : p ≠ b := fun e => hp 1 e.symm
    match i with
    | 0 =>
      show (decide (f a < f p) || (decide (f p = f a) && decide (p < a))) = false
      rw [decide_eq_false (not_lt.2 (h.le p)), Bool.false_or, Bool.and_eq_false_iff, decide_eq_false_iff_not, decide_eq_false_iff_not]
      by_cases hlt : p < a
      · exact Or.inl (h.lt p hlt).ne
      · exact Or.inr hlt
    | 1 =>
      show (decide (f b < f p) || (decide (f p = f b) && decide (p < b))) = false
      rw [decide_eq_false (not_lt.2 (h.le' p hpa)), Bool.false_or, Bool.and_eq_false_iff, decide_eq_false_iff_not, decide_eq_false_iff_not]
      by_cases hlt : p < b
      · exact Or.inl (h.lt' p hpa hlt).ne
      · exact Or.inr hlt

end Cert.Row
end
-- ==== Proof.RefGate.lean ====
/- The reference's gate, entry by entry: the share of each expert in a token's two chosen. -/
module

public import proofs.«01_k».proof.Proof.Sorted
public import proofs.«01_k».proof.Proof.RefRun
public import Idealize.ShloMosaic.Lib.Pointwise
public import Idealize.ShloMosaic.Lib.Routing.OpsPair

@[expose] public section

set_option maxRecDepth 16384

noncomputable section

namespace Cert.ReferenceIdeal.Hand

open Cert Cert.ReferenceIdeal Cert.ReferenceIdeal.Gen Idealize.ShloMosaic

/-- A token's score for an expert. -/
def scoreRow (x : FVec Ideal S32x1024 .f32) (rw : FVec Ideal S1x8x1024 .f32) (t : Fin 32) : Fin 8 → EReal :=
  fun e => ∑ k : Fin 1024, x (ix2 t k) * rw (ix3 0 e k)

theorem ofBits_neg_inf : Ideal.ofBits .f32 0xFF800000#32 = ⊥ := by simp [Ideal.ofBits, Ideal.ieee]
theorem ofBits_zero_word : Ideal.ofBits .f32 (0 : BitVec 32) = 0 := Ideal.ofBits_zero_f32

theorem softmax_apply (x : FVec Ideal S32x1024 .f32) (rw : FVec Ideal S1x8x1024 .f32) (t : Fin 32) (e : Fin 8) :
    softmax (logits x rw) (ix2 t e) = Row.soft (scoreRow x rw t) e := by
  pointwise [softmax, expScores, logits, ofBits_neg_inf]
  simp only [max_bot_left]
  rfl

variable (s : FVec Ideal S32x8 .f32) (t : Fin 32) (a b : Fin 8)

/-- Moving along a row changes the column alone. -/
theorem along_row (J : S32x8.Idx) (h : 1 < S32x8.rank) (hJ : J 0 = t) (k : Fin 8) : J.along ⟨1, h⟩ k = ix2 t k := by
  funext d
  match d with
  | ⟨0, _⟩ => exact hJ
  | ⟨1, _⟩ => rfl

/-- What the sort along a row reads at one of its first two places. -/
theorem sorted_row (h : Row.Top (fun e => s (ix2 t e)) a b) (J : S32x8.Idx) (hr : 1 < S32x8.rank) (hJ : J 0 = t) (i : Fin 2)
    (hi : (J 1).val = i.val) :
    J.along ⟨1, hr⟩ (sortedFrom (fun k k' => FloatOps.cmpfTotal (F := Ideal) (φ := .f32) .gt (s (J.along ⟨1, hr⟩ k)) (s (J.along ⟨1, hr⟩ k')) == 1#1)
      (J ⟨1, hr⟩)) = ix2 t (![a, b] i) := by
  refine (along_row t J hr hJ _).trans (congrArg (ix2 t) ?_)
  refine Eq.trans ?_ (Row.sortedFrom_top h i)
  refine congr (congrArg sortedFrom (funext fun k => funext fun k' => ?_)) (Fin.ext hi)
  rw [← along_row t J hr hJ k, ← along_row t J hr hJ k']

theorem topVals_apply (h : Row.Top (fun e => s (ix2 t e)) a b) (i : Fin 2) : topVals s (ix2 t i) = s (ix2 t (![a, b] i)) := by
  unfold topVals Host.topK extractStridedSlice Host.sort2
  simp only [dif_pos (show 1 < S32x8.rank by decide)]
  exact congrArg s (sorted_row s t a b h _ _ (Fin.ext (Nat.zero_add _)) i (Nat.zero_add _))

theorem topIdx_apply (h : Row.Top (fun e => s (ix2 t e)) a b) (i : Fin 2) : topIdx s (ix2 t i) = BitVec.ofNat 32 (![a, b] i).val := by
  unfold topIdx Host.topK extractStridedSlice Host.sort2
  simp only [dif_pos (show 1 < S32x8.rank by decide)]
  exact congrArg (fun J : S32x8.Idx => BitVec.ofNat 32 (J 1).val) (sorted_row s t a b h _ _ (Fin.ext (Nat.zero_add _)) i (Nat.zero_add _))

theorem shares_apply (h : Row.Top (fun e => s (ix2 t e)) a b) (i : Fin 2) :
    shares (topVals s) (ix2 t i) = Ideal.div (s (ix2 t (![a, b] i))) (s (ix2 t a) + s (ix2 t b)) := by
  pointwise [shares]
  rw [topVals_apply s t a b h, Fin.sum_univ_two, topVals_apply s t a b h, topVals_apply s t a b h]
  rfl

/-- A row number is not wrapped. -/
theorem pairs_row (i : IVec S32x2 32) (r : Fin 32) (k : Fin 2) :
    (pairCols (F := Ideal) rowCol (expCol i) (ix3 r k 0)) = BitVec.ofNat 32 r.val := by
  pointwise [pairCols, rowCol]
  exact Routing.wrap_of_lt _ _ (by rw [BitVec.toNat_ofNat]; omega)

/-- Neither is an expert's. -/
theorem pairs_exp (i : IVec S32x2 32) (r : Fin 32) (k : Fin 2) (e : Fin 8) (h : i (ix2 r k) = BitVec.ofNat 32 e.val) :
    (pairCols (F := Ideal) rowCol (expCol i) (ix3 r k 1)) = BitVec.ofNat 32 e.val := by
  pointwise [pairCols, expCol]
  rw [h]
  exact Routing.wrap_of_lt _ _ (by rw [BitVec.toNat_ofNat]; omega)

theorem toInt_small (n : ℕ) (h : n < 32) : (BitVec.ofNat 32 n).toInt = n := by
  rw [BitVec.toInt_ofNat', Int.bmod_def]
  omega

/-- Where a share lands. -/
theorem lands (A B : Fin 32 → Fin 8) (h : ∀ r, Row.Top (fun e => s (ix2 r e)) (A r) (B r)) (r : Fin 32) (k : Fin 2) (e : Fin 8) :
    scatter_S32x8_S32x2x2_S32x2_n_01_01_2.resultIdx? (ix2 r k) (pairCols (F := Ideal) rowCol (expCol (topIdx s))) = some (ix2 t e)
      ↔ r = t ∧ ![A r, B r] k = e := by
  refine (Routing.scatter_lands2 scatter_S32x8_S32x2x2_S32x2_n_01_01_2 rfl rfl rfl _ r k t e).trans ?_
  refine (and_congr (Eq.congr_left (congrArg BitVec.toInt (pairs_row (topIdx s) r k)))
    (Eq.congr_left (congrArg BitVec.toInt (pairs_exp (topIdx s) r k _ (topIdx_apply s r _ _ (h r) k))))).trans ?_
  rw [toInt_small _ r.isLt, toInt_small _ ((![A r, B r] k).isLt.trans (by decide)), Fin.ext_iff, Fin.ext_iff]
  omega

/-- An accumulating scatter at an entry. -/
theorem scatterAdd_apply {s si u : Shape} {w : ℕ} (d : ScatterDims s si u) (z : FVec Ideal s .f32) (idx : IVec si w) (v : FVec Ideal u .f32) (q : s.Idx) :
    Host.scatterAdd d z idx v q = z q + ∑ j, if d.resultIdx? j idx = some q then v j else 0 :=
  congrArg (z q + ·) (Finset.sum_filter _ _)

/-- An entry of the gate. -/
theorem gate_apply (A B : Fin 32 → Fin 8) (h : ∀ r, Row.Top (fun e => s (ix2 r e)) (A r) (B r)) (e : Fin 8) :
    gate s (ix2 t e) = Row.share (fun e => s (ix2 t e)) (A t) (B t) e := by
  have hz : broadcastInDim S32x8 ![] bcast_S_S32x8 (constant (F := Ideal) S_ .f32 0x00000000#32) (ix2 t e) = 0 := by pointwise
  unfold gate
  rw [scatterAdd_apply, hz, zero_add, sum_idx2, Finset.sum_eq_single t]
  · rw [Fin.sum_univ_two]
    simp only [lands s t A B h, shares_apply s t _ _ (h t)]
    simp [Row.share]
  · intro r _ hr
    refine Finset.sum_eq_zero fun k _ => if_neg fun q => hr ((lands s t A B h r k e).1 q).1
  · exact fun q => absurd (Finset.mem_univ _) q

end Cert.ReferenceIdeal.Hand
end
-- ==== Proof.RefSum.lean ====
/- The reference's result entry by entry, as sums of products. -/
module

public import proofs.«01_k».proof.Proof.RefGate
public import proofs.«01_k».proof.Proof.Mix

@[expose] public section

set_option maxRecDepth 16384

noncomputable section

namespace Cert.ReferenceIdeal.Hand

open Cert Cert.ReferenceIdeal Cert.ReferenceIdeal.Gen Idealize.ShloMosaic

theorem third_apply (ws : FVec Ideal S1x8x3145728 .f32) (k : Fin 3) (h : S8x3145728.Slices ![0, k.val * 1048576] S8x1048576) (e : Fin 8) (i j : Fin 1024) :
    third ws ![0, k.val * 1048576] h (ix3 e i j) = Row.cell (fun p => ws (ix3 0 e p)) k i j := by
  pointwise [third]
  rfl

theorem combine_apply (x : FVec Ideal S32x1024 .f32) (g : FVec Ideal S32x8 .f32) (w v u : FVec Ideal S8x1024x1024 .f32) (t : Fin 32) (c : Fin 1024) :
    combine x g w v u (ix2 t c) = ∑ e, g (ix2 t e) * ∑ i, u (ix3 e c i)
      * ((∑ h, x (ix2 t h) * w (ix3 e i h)) * Ideal.logistic (∑ h, x (ix2 t h) * w (ix3 e i h)) * ∑ h, x (ix2 t h) * v (ix3 e i h)) := by
  pointwise [combine, silu, project]
  rfl

/-- The reference's result at an entry, its two chosen experts per token named. -/
theorem result_apply (x : FVec Ideal S32x1024 .f32) (rw : FVec Ideal S1x8x1024 .f32) (ws : FVec Ideal S1x8x3145728 .f32) (A B : Fin 32 → Fin 8)
    (h : ∀ r, Row.Top (Row.soft (scoreRow x rw r)) (A r) (B r)) (t : Fin 32) (c : Fin 1024) :
    result x rw ws (ix2 t c) = ∑ e, Row.share (Row.soft (scoreRow x rw t)) (A t) (B t) e
      * ∑ i, Row.cell (fun p => ws (ix3 0 e p)) 2 c i * Row.swish (fun p => ws (ix3 0 e p)) (fun h => x (ix2 t h)) i := by
  have hs : ∀ r, (fun e => softmax (logits x rw) (ix2 r e)) = Row.soft (scoreRow x rw r) := fun r => funext fun e => softmax_apply x rw r e
  unfold result
  rw [combine_apply]
  refine Finset.sum_congr rfl fun e _ => ?_
  rw [gate_apply _ t A B (fun r => (hs r).symm ▸ h r) e, hs]
  refine congrArg (_ * ·) (Finset.sum_congr rfl fun i _ => ?_)
  have hu := third_apply ws 2 slices_S8x3145728_S8x1048576_0_2097152 e c i
  have h0 : ∀ h, x (ix2 t h) * third ws ![0, 0] slices_S8x3145728_S8x1048576_0_0 (ix3 e i h) = Row.cell (fun p => ws (ix3 0 e p)) 0 i h * x (ix2 t h) :=
    fun h => (mul_comm _ _).trans (congrArg (· * _) (third_apply ws 0 slices_S8x3145728_S8x1048576_0_0 e i h))
  have h1 : ∀ h, x (ix2 t h) * third ws ![0, 1048576] slices_S8x3145728_S8x1048576_0_1048576 (ix3 e i h) = Row.cell (fun p => ws (ix3 0 e p)) 1 i h * x (ix2 t h) :=
    fun h => (mul_comm _ _).trans (congrArg (· * _) (third_apply ws 1 slices_S8x3145728_S8x1048576_0_1048576 e i h))
  simp only [h0, h1]
  exact congrArg (· * _) hu

end Cert.ReferenceIdeal.Hand
end
-- ==== Proof.Algebraic.lean ====
/- The value claim: on extended reals the kernel's result is the reference's, entry by entry and for every input. -/
module

public import proofs.«01_k».proof.Defs
public import proofs.«01_k».proof.Proof.Blocks
public import proofs.«01_k».proof.Proof.KernelSum
public import proofs.«01_k».proof.Proof.RefSum
public import Idealize.ShloMosaic.Lib.Claim

@[expose] public section

set_option maxRecDepth 16384

noncomputable section

namespace Cert.Proof

open Idealize.ShloMosaic Idealize.SL.Sem

/-- Equal sums: the same two experts per token, the same shares, and the weights moved out of the inner sums. -/
theorem oAll_eq_result (x : FVec Ideal Cert.KernelIdeal.S32x1024 .f32) (rw3 : FVec Ideal Cert.ReferenceIdeal.S1x8x1024 .f32)
    (ws : FVec Ideal Cert.ReferenceIdeal.S1x8x3145728 .f32) (rw : FVec Ideal Cert.KernelIdeal.S8x1024 .f32)
    (W : ℕ → FVec Ideal Cert.KernelIdeal.S8x262144 .f32) (hr : ∀ (e : Fin 8) (k : Fin 1024), rw (ix2 e k) = rw3 (ix3 0 e k))
    (hW : ∀ (k : ℕ) (hk : k < 12) (e : Fin 8) (j : Fin 262144), W k (ix2 e j) = ws (ix3 0 e ⟨k * 262144 + j.val, Cert.Row.slot_lt hk j⟩)) :
    Cert.KernelIdeal.Hand.oAll x rw W = Cert.ReferenceIdeal.Hand.result x rw3 ws := by
  funext j
  obtain ⟨t, c, rfl⟩ : ∃ (t : Fin 32) (c : Fin 1024), j = ix2 t c := ⟨j 0, j 1, by
    funext d
    match d with
    | ⟨0, _⟩ => rfl
    | ⟨1, _⟩ => rfl⟩
  have hrow : ∀ r, Cert.KernelIdeal.Hand.scoreRow x rw r = Cert.ReferenceIdeal.Hand.scoreRow x rw3 r := fun r =>
    funext fun e => Finset.sum_congr rfl fun k _ => congrArg (x (ix2 r k) * ·) (hr e k)
  choose A B h using fun r => Cert.Row.exists_top (Cert.Row.soft (Cert.ReferenceIdeal.Hand.scoreRow x rw3 r))
  have hs := Cert.Row.soft_soft (Cert.ReferenceIdeal.Hand.scoreRow x rw3 t)
  refine (Cert.KernelIdeal.Hand.oAll_apply x rw W (fun e p => ws (ix3 0 e p)) hW t c).trans ?_
  refine Eq.trans ?_ (Cert.ReferenceIdeal.Hand.result_apply x rw3 ws A B h t c).symm
  rw [hrow]
  simp only [Cert.Row.kernelShare_eq hs (h t)]
  exact Cert.Row.weigh (fun e p => ws (ix3 0 e p)) (fun k => x (ix2 t k)) _ (fun e => Cert.Row.share_real hs (h t) e) c

theorem algebraic : Cert.algebraic_KernelIdeal_ReferenceIdeal := fun m g m' g' _ hag =>
  ⟨fun c => Cert.KernelIdeal.Hand.oAll (Cert.KernelIdeal.Hand.xB m c) (Cert.KernelIdeal.Hand.rwB m c) (Cert.KernelIdeal.Hand.WB m c),
    (θ_run Cert.KernelIdeal.defs _ _).mono (fun _ h c => ⟨Cert.KernelIdeal.Hand.final_out h.1 c, Cert.KernelIdeal.Hand.final_args h.1 c⟩)
      (Cert.KernelIdeal.Hand.run_main (F := Ideal) m g),
    (θ_run Cert.ReferenceIdeal.defs _ _).mono (fun r h c => ⟨(h c).1.trans (by
        rw [(hag c).2.1, (hag c).2.2.1, (hag c).2.2.2]
        refine Eq.trans ?_ (oAll_eq_result _ _ _ _ _ (Cert.KernelIdeal.Hand.rwB_apply m c) (Cert.KernelIdeal.Hand.WB_apply m c)).symm
        exact congrArg (fun x => Cert.ReferenceIdeal.Hand.result (F := Ideal) x _ _) (funext fun i => (Cert.KernelIdeal.Hand.xB_eq m c i).symm)),
      (h c).2⟩)
      (Cert.ReferenceIdeal.Hand.run (F := Ideal) m' g')⟩

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_p, frame_pi, frame_ri, preserves, algebraic⟩

end Cert.Proof

end
